-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_equal_probabilities [hPre_equal_probabilities : Cert.Pre_equal_probabilities.Facts] (m : (ℓ : Loc Cert.KernelIdeal.nD Cert.KernelIdeal.τ Cert.KernelIdeal.sig) → Buf (Elt Ideal) ℓ) : Prop :=
  ∀ c : Dev Cert.KernelIdeal.nD,
    (Cert.Pre_equal_probabilities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_probabilities [hPre_equal_probabilities : Cert.Pre_equal_probabilities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_probabilities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_equal_probabilities [hKernelIdeal : Cert.KernelIdeal.Facts] [hPre_equal_probabilities : Cert.Pre_equal_probabilities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_probabilities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_equal_probabilities [hReferenceIdeal : Cert.ReferenceIdeal.Facts] [hPre_equal_probabilities : Cert.Pre_equal_probabilities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_probabilities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_equal_probabilities [hKernelIdeal : Cert.KernelIdeal.Facts] [hReferenceIdeal : Cert.ReferenceIdeal.Facts] [hPre_equal_probabilities : Cert.Pre_equal_probabilities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_probabilities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_equal_probabilities : Cert.Pre_equal_probabilities.Facts),
    quiescent_Kernel (hKernel := hKernel)
    ∧ quiescent_KernelIdeal (hKernelIdeal := hKernelIdeal)
    ∧ quiescent_KernelIdeal_pre_equal_probabilities (hKernelIdeal := hKernelIdeal) (hPre_equal_probabilities := hPre_equal_probabilities)
    ∧ quiescent_ReferenceIdeal (hReferenceIdeal := hReferenceIdeal)
    ∧ quiescent_ReferenceIdeal_pre_equal_probabilities (hReferenceIdeal := hReferenceIdeal) (hPre_equal_probabilities := hPre_equal_probabilities)
    ∧ preserves_Kernel_KernelIdeal
    ∧ algebraic_KernelIdeal_ReferenceIdeal_pre_equal_probabilities (hKernelIdeal := hKernelIdeal) (hReferenceIdeal := hReferenceIdeal) (hPre_equal_probabilities := hPre_equal_probabilities)
-- ==== Pre_equal_probabilities.lean ====
abbrev S2000000x3 : Shape := ⟨2, ![2000000, 3]⟩
abbrev S8x3x3 : Shape := ⟨3, ![8, 3, 3]⟩
abbrev S8x3 : Shape := ⟨2, ![8, 3]⟩
abbrev S8 : Shape := ⟨1, ![8]⟩
abbrev S1 : Shape := ⟨1, ![1]⟩
abbrev S_ : Shape := ⟨0, ![]⟩

class Facts : Prop where
  slices_S8_S1_0 : S8.Slices ![0] S1
  shapeCasts_S1_S_ : S1.ShapeCasts S_
  bcast_S_S8 : S_.BroadcastsInDim S8 (![] : Fin 0 → Fin S8.rank)

variable [Facts]

def fn {F : FTy → Type} [FloatOps F] (main_arg0 : FVec F S2000000x3 .f32) (main_arg1 : FVec F S2000000x3 .f32) (main_arg2 : FVec F S8x3x3 .f32) (main_arg3 : FVec F S8x3 .f32) (main_arg4 : FVec F S8x3 .f32) (main_arg5 : FVec F S8 .f32) : IVec S8 1 :=
  let main_v0 : FVec F S1 .f32 := (extractStridedSlice S1 ![0] · slices_S8_S1_0) main_arg5
  let main_v1 : FVec F S_ .f32 := shapeCast S_ main_v0 shapeCasts_S1_S_
  let main_v2 : FVec F S8 .f32 := broadcastInDim S8 ![] bcast_S_S8 main_v1
  let main_v3 : IVec S8 1 := cmpf .oeq main_arg5 main_v2
  let main_cst : FVec F S_ .f32 := constant S_ .f32 0x00000000#32
  let main_v4 : FVec F S8 .f32 := broadcastInDim S8 ![] bcast_S_S8 main_cst
  let main_v5 : IVec S8 1 := cmpf .ogt main_arg5 main_v4
  let main_v6 : IVec S8 1 := andi main_v3 main_v5
  let main_cst_0 : FVec F S_ .f32 := constant S_ .f32 0x7F800000#32
  let main_v7 : FVec F S8 .f32 := broadcastInDim S8 ![] bcast_S_S8 main_cst_0
  let main_v8 : IVec S8 1 := cmpf .olt main_arg5 main_v7
  let main_v9 : IVec S8 1 := andi main_v6 main_v8
  main_v9
-- ==== Kernel.lean ====
abbrev S2000000x3 : Shape := ⟨2, ![2000000, 3]⟩
abbrev S8x3x3 : Shape := ⟨3, ![8, 3, 3]⟩
abbrev S8x3 : Shape := ⟨2, ![8, 3]⟩
abbrev S8 : Shape := ⟨1, ![8]⟩
abbrev S8x9 : Shape := ⟨2, ![8, 9]⟩
abbrev S8x15 : Shape := ⟨2, ![8, 15]⟩
abbrev S15x8 : Shape := ⟨2, ![15, 8]⟩
abbrev S625 : Shape := ⟨1, ![625]⟩
abbrev S625x1 : Shape := ⟨2, ![625, 1]⟩
abbrev S128 : Shape := ⟨1, ![128]⟩
abbrev S1x128 : Shape := ⟨2, ![1, 128]⟩
abbrev S_ : Shape := ⟨0, ![]⟩
abbrev S625x128 : Shape := ⟨2, ![625, 128]⟩
abbrev S3x2000000 : Shape := ⟨2, ![3, 2000000]⟩
abbrev S3x25x625x128 : Shape := ⟨4, ![3, 25, 625, 128]⟩
abbrev S3x1x625x128 : Shape := ⟨4, ![3, 1, 625, 128]⟩
abbrev S1x1x625x128 : Shape := ⟨4, ![1, 1, 625, 128]⟩
abbrev S1x1 : Shape := ⟨2, ![1, 1]⟩

abbrev nBuf : Space → Nat
  | .hbm => 32
  | .vmem => 9
  | .smem => 1
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S8x3x3, .f32⟩
  | .hbm, ⟨3, _⟩ => ⟨S8x3, .f32⟩
  | .hbm, ⟨4, _⟩ => ⟨S8x3, .f32⟩
  | .hbm, ⟨5, _⟩ => ⟨S8, .f32⟩
  | .hbm, ⟨6, _⟩ => ⟨S8x9, .f32⟩
  | .hbm, ⟨7, _⟩ => ⟨S8x15, .f32⟩
  | .hbm, ⟨8, _⟩ => ⟨S15x8, .f32⟩
  | .hbm, ⟨9, _⟩ => ⟨S625, .i32⟩
  | .hbm, ⟨10, _⟩ => ⟨S625x1, .i32⟩
  | .hbm, ⟨11, _⟩ => ⟨S128, .i32⟩
  | .hbm, ⟨12, _⟩ => ⟨S1x128, .i32⟩
  | .hbm, ⟨13, _⟩ => ⟨S_, .i32⟩
  | .hbm, ⟨14, _⟩ => ⟨S625x1, .i32⟩
  | .hbm, ⟨15, _⟩ => ⟨S625x1, .i32⟩
  | .hbm, ⟨16, _⟩ => ⟨S_, .i32⟩
  | .hbm, ⟨17, _⟩ => ⟨S1x128, .i32⟩
  | .hbm, ⟨18, _⟩ => ⟨S1x128, .i32⟩
  | .hbm, ⟨19, _⟩ => ⟨S625x128, .i32⟩
  | .hbm, ⟨20, _⟩ => ⟨S625x128, .i32⟩
  | .hbm, ⟨21, _⟩ => ⟨S625x128, .i32⟩
  | .hbm, ⟨22, _⟩ => ⟨S3x2000000, .f32⟩
  | .hbm, ⟨23, _⟩ => ⟨S3x25x625x128, .f32⟩
  | .hbm, ⟨24, _⟩ => ⟨S3x2000000, .f32⟩
  | .hbm, ⟨25, _⟩ => ⟨S3x25x625x128, .f32⟩
  | .hbm, ⟨26, _⟩ => ⟨S3x25x625x128, .f32⟩
  | .hbm, ⟨27, _⟩ => ⟨S3x25x625x128, .f32⟩
  | .hbm, ⟨28, _⟩ => ⟨S3x2000000, .f32⟩
  | .hbm, ⟨29, _⟩ => ⟨S2000000x3, .f32⟩
  | .hbm, ⟨30, _⟩ => ⟨S3x2000000, .f32⟩
  | .hbm, ⟨31, _⟩ => ⟨S2000000x3, .f32⟩
  | .local _ .vmem, ⟨0, _⟩ => ⟨S625x128, .i32⟩
  | .local _ .vmem, ⟨1, _⟩ => ⟨S3x1x625x128, .f32⟩
  | .local _ .vmem, ⟨2, _⟩ => ⟨S3x1x625x128, .f32⟩
  | .local _ .vmem, ⟨3, _⟩ => ⟨S3x1x625x128, .f32⟩
  | .local _ .vmem, ⟨4, _⟩ => ⟨S3x1x625x128, .f32⟩
  | .local _ .vmem, ⟨5, _⟩ => ⟨S3x1x625x128, .f32⟩
  | .local _ .vmem, ⟨6, _⟩ => ⟨S3x1x625x128, .f32⟩
  | .local _ .vmem, ⟨7, _⟩ => ⟨S3x1x625x128, .f32⟩
  | .local _ .vmem, ⟨8, _⟩ => ⟨S3x1x625x128, .f32⟩
  | .local _ .smem, ⟨0, _⟩ => ⟨S15x8, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S15x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S625x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1x625x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x625x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1x625x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x1x625x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2000000x3 : Shape := ⟨2, ![2000000, 3]⟩
abbrev S8x3x3 : Shape := ⟨3, ![8, 3, 3]⟩
abbrev S8x3 : Shape := ⟨2, ![8, 3]⟩
abbrev S8 : Shape := ⟨1, ![8]⟩
abbrev S_ : Shape := ⟨0, ![]⟩
abbrev S1 : Shape := ⟨1, ![1]⟩
abbrev S2 : Shape := ⟨1, ![2]⟩
abbrev S1x1 : Shape := ⟨2, ![1, 1]⟩
abbrev S2000000x8 : Shape := ⟨2, ![2000000, 8]⟩
abbrev S1x8 : Shape := ⟨2, ![1, 8]⟩
abbrev S2000000 : Shape := ⟨1, ![2000000]⟩
abbrev S2000000x1 : Shape := ⟨2, ![2000000, 1]⟩
abbrev S2000000x3x3 : Shape := ⟨3, ![2000000, 3, 3]⟩

abbrev nBuf : Space → Nat
  | .hbm => 386
  | .vmem => 0
  | .smem => 0
  | _ => 0

abbrev hbmTy0_0 (i : Nat) : BufTy := match i % 128 with
  | 0 => ⟨S2000000x3, .f32⟩
  | 1 => ⟨S2000000x3, .f32⟩
  | 2 => ⟨S8x3x3, .f32⟩
  | 3 => ⟨S8x3, .f32⟩
  | 4 => ⟨S8x3, .f32⟩
  | 5 => ⟨S8, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S8, .f32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S2000000x8, .i64⟩
  | 27 => ⟨S2000000x8, .i64⟩
  | 28 => ⟨S_, .i64⟩
  | 29 => ⟨S2000000x8, .i64⟩
  | 30 => ⟨S2000000x8, .i64⟩
  | 31 => ⟨S_, .i64⟩
  | 32 => ⟨S2000000x8, .i64⟩
  | 33 => ⟨S2000000x8, .i64⟩
  | 34 => ⟨S2000000x8, .i64⟩
  | 35 => ⟨S_, .i64⟩
  | 36 => ⟨S2000000x8, .i64⟩
  | 37 => ⟨S2000000x8, .i64⟩
  | 38 => ⟨S2000000x8, .i32⟩
  | 39 => ⟨S2000000x8, .i32⟩
  | 40 => ⟨S_, .i32⟩
  | 41 => ⟨S_, .i32⟩
  | 42 => ⟨S_, .i32⟩
  | 43 => ⟨S2000000x8, .i32⟩
  | 44 => ⟨S2000000x8, .i32⟩
  | 45 => ⟨S2000000x8, .i32⟩
  | 46 => ⟨S2000000x8, .i32⟩
  | 47 => ⟨S2000000x8, .i32⟩
  | 48 => ⟨S_, .i32⟩
  | 49 => ⟨S2000000x8, .i32⟩
  | 50 => ⟨S2000000x8, .i32⟩
  | 51 => ⟨S_, .i32⟩
  | 52 => ⟨S2000000x8, .i32⟩
  | 53 => ⟨S2000000x8, .i32⟩
  | 54 => ⟨S2000000x8, .i32⟩
  | 55 => ⟨S2000000x8, .i32⟩
  | 56 => ⟨S2000000x8, .i32⟩
  | 57 => ⟨S_, .i32⟩
  | 58 => ⟨S2000000x8, .i32⟩
  | 59 => ⟨S2000000x8, .i32⟩
  | 60 => ⟨S_, .i32⟩
  | 61 => ⟨S2000000x8, .i32⟩
  | 62 => ⟨S2000000x8, .i32⟩
  | 63 => ⟨S2000000x8, .i32⟩
  | 64 => ⟨S2000000x8, .i32⟩
  | 65 => ⟨S2000000x8, .i32⟩
  | 66 => ⟨S_, .i32⟩
  | 67 => ⟨S2000000x8, .i32⟩
  | 68 => ⟨S2000000x8, .i32⟩
  | 69 => ⟨S_, .i32⟩
  | 70 => ⟨S2000000x8, .i32⟩
  | 71 => ⟨S2000000x8, .i32⟩
  | 72 => ⟨S2000000x8, .i32⟩
  | 73 => ⟨S2000000x8, .i32⟩
  | 74 => ⟨S2000000x8, .i32⟩
  | 75 => ⟨S_, .i32⟩
  | 76 => ⟨S2000000x8, .i32⟩
  | 77 => ⟨S2000000x8, .i32⟩
  | 78 => ⟨S_, .i32⟩
  | 79 => ⟨S2000000x8, .i32⟩
  | 80 => ⟨S2000000x8, .i32⟩
  | 81 => ⟨S2000000x8, .i32⟩
  | 82 => ⟨S2000000x8, .i32⟩
  | 83 => ⟨S2000000x8, .i32⟩
  | 84 => ⟨S2000000x8, .i32⟩
  | 85 => ⟨S2000000x8, .i32⟩
  | 86 => ⟨S2000000x8, .i32⟩
  | 87 => ⟨S_, .i32⟩
  | 88 => ⟨S2000000x8, .i32⟩
  | 89 => ⟨S2000000x8, .i32⟩
  | 90 => ⟨S2000000x8, .i32⟩
  | 91 => ⟨S_, .i32⟩
  | 92 => ⟨S2000000x8, .i32⟩
  | 93 => ⟨S2000000x8, .i32⟩
  | 94 => ⟨S_, .i32⟩
  | 95 => ⟨S2000000x8, .i32⟩
  | 96 => ⟨S2000000x8, .i32⟩
  | 97 => ⟨S2000000x8, .i32⟩
  | 98 => ⟨S2000000x8, .i32⟩
  | 99 => ⟨S2000000x8, .i32⟩
  | 100 => ⟨S_, .i32⟩
  | 101 => ⟨S2000000x8, .i32⟩
  | 102 => ⟨S2000000x8, .i32⟩
  | 103 => ⟨S_, .i32⟩
  | 104 => ⟨S2000000x8, .i32⟩
  | 105 => ⟨S2000000x8, .i32⟩
  | 106 => ⟨S2000000x8, .i32⟩
  | 107 => ⟨S2000000x8, .i32⟩
  | 108 => ⟨S2000000x8, .i32⟩
  | 109 => ⟨S_, .i32⟩
  | 110 => ⟨S2000000x8, .i32⟩
  | 111 => ⟨S2000000x8, .i32⟩
  | 112 => ⟨S_, .i32⟩
  | 113 => ⟨S2000000x8, .i32⟩
  | 114 => ⟨S2000000x8, .i32⟩
  | 115 => ⟨S2000000x8, .i32⟩
  | 116 => ⟨S2000000x8, .i32⟩
  | 117 => ⟨S2000000x8, .i32⟩
  | 118 => ⟨S_, .i32⟩
  | 119 => ⟨S2000000x8, .i32⟩
  | 120 => ⟨S2000000x8, .i32⟩
  | 121 => ⟨S_, .i32⟩
  | 122 => ⟨S2000000x8, .i32⟩
  | 123 => ⟨S2000000x8, .i32⟩
  | 124 => ⟨S2000000x8, .i32⟩
  | 125 => ⟨S2000000x8, .i32⟩
  | 126 => ⟨S2000000x8, .i32⟩
  | 127 => ⟨S2000000x8, .i32⟩
  | _ => ⟨S2000000x3, .f32⟩

abbrev hbmTy0_1 (i : Nat) : BufTy := match i % 128 with
  | 0 => ⟨S2000000x8, .i32⟩
  | 1 => ⟨S2000000x8, .i32⟩
  | 2 => ⟨S_, .i32⟩
  | 3 => ⟨S2000000x8, .i32⟩
  | 4 => ⟨S2000000x8, .i32⟩
  | 5 => ⟨S2000000x8, .i32⟩
  | 6 => ⟨S_, .i32⟩
  | 7 => ⟨S2000000x8, .i32⟩
  | 8 => ⟨S2000000x8, .i32⟩
  | 9 => ⟨S_, .i32⟩
  | 10 => ⟨S2000000x8, .i32⟩
  | 11 => ⟨S2000000x8, .i32⟩
  | 12 => ⟨S2000000x8, .i32⟩
  | 13 => ⟨S2000000x8, .i32⟩
  | 14 => ⟨S2000000x8, .i32⟩
  | 15 => ⟨S_, .i32⟩
  | 16 => ⟨S2000000x8, .i32⟩
  | 17 => ⟨S2000000x8, .i32⟩
  | 18 => ⟨S_, .i32⟩
  | 19 => ⟨S2000000x8, .i32⟩
  | 20 => ⟨S2000000x8, .i32⟩
  | 21 => ⟨S2000000x8, .i32⟩
  | 22 => ⟨S2000000x8, .i32⟩
  | 23 => ⟨S2000000x8, .i32⟩
  | 24 => ⟨S_, .i32⟩
  | 25 => ⟨S2000000x8, .i32⟩
  | 26 => ⟨S2000000x8, .i32⟩
  | 27 => ⟨S_, .i32⟩
  | 28 => ⟨S2000000x8, .i32⟩
  | 29 => ⟨S2000000x8, .i32⟩
  | 30 => ⟨S2000000x8, .i32⟩
  | 31 => ⟨S2000000x8, .i32⟩
  | 32 => ⟨S2000000x8, .i32⟩
  | 33 => ⟨S_, .i32⟩
  | 34 => ⟨S2000000x8, .i32⟩
  | 35 => ⟨S2000000x8, .i32⟩
  | 36 => ⟨S_, .i32⟩
  | 37 => ⟨S2000000x8, .i32⟩
  | 38 => ⟨S2000000x8, .i32⟩
  | 39 => ⟨S2000000x8, .i32⟩
  | 40 => ⟨S2000000x8, .i32⟩
  | 41 => ⟨S2000000x8, .i32⟩
  | 42 => ⟨S2000000x8, .i32⟩
  | 43 => ⟨S2000000x8, .i32⟩
  | 44 => ⟨S2000000x8, .i32⟩
  | 45 => ⟨S_, .i32⟩
  | 46 => ⟨S2000000x8, .i32⟩
  | 47 => ⟨S2000000x8, .i32⟩
  | 48 => ⟨S2000000x8, .i32⟩
  | 49 => ⟨S_, .i32⟩
  | 50 => ⟨S2000000x8, .i32⟩
  | 51 => ⟨S2000000x8, .i32⟩
  | 52 => ⟨S_, .i32⟩
  | 53 => ⟨S2000000x8, .i32⟩
  | 54 => ⟨S2000000x8, .i32⟩
  | 55 => ⟨S2000000x8, .i32⟩
  | 56 => ⟨S2000000x8, .i32⟩
  | 57 => ⟨S2000000x8, .i32⟩
  | 58 => ⟨S_, .i32⟩
  | 59 => ⟨S2000000x8, .i32⟩
  | 60 => ⟨S2000000x8, .i32⟩
  | 61 => ⟨S_, .i32⟩
  | 62 => ⟨S2000000x8, .i32⟩
  | 63 => ⟨S2000000x8, .i32⟩
  | 64 => ⟨S2000000x8, .i32⟩
  | 65 => ⟨S2000000x8, .i32⟩
  | 66 => ⟨S2000000x8, .i32⟩
  | 67 => ⟨S_, .i32⟩
  | 68 => ⟨S2000000x8, .i32⟩
  | 69 => ⟨S2000000x8, .i32⟩
  | 70 => ⟨S_, .i32⟩
  | 71 => ⟨S2000000x8, .i32⟩
  | 72 => ⟨S2000000x8, .i32⟩
  | 73 => ⟨S2000000x8, .i32⟩
  | 74 => ⟨S2000000x8, .i32⟩
  | 75 => ⟨S2000000x8, .i32⟩
  | 76 => ⟨S_, .i32⟩
  | 77 => ⟨S2000000x8, .i32⟩
  | 78 => ⟨S2000000x8, .i32⟩
  | 79 => ⟨S_, .i32⟩
  | 80 => ⟨S2000000x8, .i32⟩
  | 81 => ⟨S2000000x8, .i32⟩
  | 82 => ⟨S2000000x8, .i32⟩
  | 83 => ⟨S2000000x8, .i32⟩
  | 84 => ⟨S2000000x8, .i32⟩
  | 85 => ⟨S2000000x8, .i32⟩
  | 86 => ⟨S2000000x8, .i32⟩
  | 87 => ⟨S2000000x8, .i32⟩
  | 88 => ⟨S_, .i32⟩
  | 89 => ⟨S2000000x8, .i32⟩
  | 90 => ⟨S2000000x8, .i32⟩
  | 91 => ⟨S2000000x8, .i32⟩
  | 92 => ⟨S_, .i32⟩
  | 93 => ⟨S2000000x8, .i32⟩
  | 94 => ⟨S2000000x8, .i32⟩
  | 95 => ⟨S_, .i32⟩
  | 96 => ⟨S2000000x8, .i32⟩
  | 97 => ⟨S2000000x8, .i32⟩
  | 98 => ⟨S2000000x8, .i32⟩
  | 99 => ⟨S2000000x8, .i32⟩
  | 100 => ⟨S2000000x8, .i32⟩
  | 101 => ⟨S_, .i32⟩
  | 102 => ⟨S2000000x8, .i32⟩
  | 103 => ⟨S2000000x8, .i32⟩
  | 104 => ⟨S_, .i32⟩
  | 105 => ⟨S2000000x8, .i32⟩
  | 106 => ⟨S2000000x8, .i32⟩
  | 107 => ⟨S2000000x8, .i32⟩
  | 108 => ⟨S2000000x8, .i32⟩
  | 109 => ⟨S2000000x8, .i32⟩
  | 110 => ⟨S_, .i32⟩
  | 111 => ⟨S2000000x8, .i32⟩
  | 112 => ⟨S2000000x8, .i32⟩
  | 113 => ⟨S_, .i32⟩
  | 114 => ⟨S2000000x8, .i32⟩
  | 115 => ⟨S2000000x8, .i32⟩
  | 116 => ⟨S2000000x8, .i32⟩
  | 117 => ⟨S2000000x8, .i32⟩
  | 118 => ⟨S2000000x8, .i32⟩
  | 119 => ⟨S_, .i32⟩
  | 120 => ⟨S2000000x8, .i32⟩
  | 121 => ⟨S2000000x8, .i32⟩
  | 122 => ⟨S_, .i32⟩
  | 123 => ⟨S2000000x8, .i32⟩
  | 124 => ⟨S2000000x8, .i32⟩
  | 125 => ⟨S2000000x8, .i32⟩
  | 126 => ⟨S2000000x8, .i32⟩
  | 127 => ⟨S2000000x8, .i32⟩
  | _ => ⟨S2000000x3, .f32⟩

abbrev hbmTy0_2 (i : Nat) : BufTy := match i % 128 with
  | 0 => ⟨S2000000x8, .i32⟩
  | 1 => ⟨S2000000x8, .i32⟩
  | 2 => ⟨S2000000x8, .i32⟩
  | 3 => ⟨S_, .i32⟩
  | 4 => ⟨S2000000x8, .i32⟩
  | 5 => ⟨S2000000x8, .i32⟩
  | 6 => ⟨S2000000x8, .i32⟩
  | 7 => ⟨S_, .i32⟩
  | 8 => ⟨S2000000x8, .i32⟩
  | 9 => ⟨S2000000x8, .i32⟩
  | 10 => ⟨S_, .i32⟩
  | 11 => ⟨S2000000x8, .i32⟩
  | 12 => ⟨S2000000x8, .i32⟩
  | 13 => ⟨S2000000x8, .f32⟩
  | 14 => ⟨S_, .f32⟩
  | 15 => ⟨S2000000x8, .f32⟩
  | 16 => ⟨S2000000x8, .f32⟩
  | 17 => ⟨S1x1, .f32⟩
  | 18 => ⟨S2000000x8, .f32⟩
  | 19 => ⟨S2000000x8, .f32⟩
  | 20 => ⟨S2000000x8, .f32⟩
  | 21 => ⟨S2000000x8, .f32⟩
  | 22 => ⟨S2000000x8, .f32⟩
  | 23 => ⟨S2000000x8, .f32⟩
  | 24 => ⟨S2000000x8, .f32⟩
  | 25 => ⟨S2000000x8, .f32⟩
  | 26 => ⟨S2000000x8, .f32⟩
  | 27 => ⟨S2000000x8, .f32⟩
  | 28 => ⟨S1x8, .f32⟩
  | 29 => ⟨S2000000x8, .f32⟩
  | 30 => ⟨S2000000x8, .f32⟩
  | 31 => ⟨S2000000x8, .i32⟩
  | 32 => ⟨S_, .f32⟩
  | 33 => ⟨S_, .i32⟩
  | 34 => ⟨S2000000, .f32⟩
  | 35 => ⟨S2000000, .i32⟩
  | 36 => ⟨S_, .i32⟩
  | 37 => ⟨S2000000, .i32⟩
  | 38 => ⟨S2000000, .i1⟩
  | 39 => ⟨S_, .i32⟩
  | 40 => ⟨S2000000, .i32⟩
  | 41 => ⟨S2000000, .i32⟩
  | 42 => ⟨S2000000, .i32⟩
  | 43 => ⟨S2000000x1, .i32⟩
  | 44 => ⟨S1, .i32⟩
  | 45 => ⟨S_, .i32⟩
  | 46 => ⟨S2000000x1, .i32⟩
  | 47 => ⟨S2000000x1, .i1⟩
  | 48 => ⟨S1x1, .i32⟩
  | 49 => ⟨S2000000x1, .i32⟩
  | 50 => ⟨S2000000x1, .i1⟩
  | 51 => ⟨S2000000x1, .i1⟩
  | 52 => ⟨S_, .i1⟩
  | 53 => ⟨S2000000, .i1⟩
  | 54 => ⟨S2000000x3x3, .f32⟩
  | 55 => ⟨S2000000x3x3, .i1⟩
  | 56 => ⟨S_, .f32⟩
  | 57 => ⟨S2000000x3x3, .f32⟩
  | 58 => ⟨S2000000x3x3, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S1, .i32⟩
  | 68 => ⟨S_, .i32⟩
  | 69 => ⟨S2000000x1, .i32⟩
  | 70 => ⟨S2000000x1, .i1⟩
  | 71 => ⟨S1x1, .i32⟩
  | 72 => ⟨S2000000x1, .i32⟩
  | 73 => ⟨S2000000x1, .i1⟩
  | 74 => ⟨S2000000x1, .i1⟩
  | 75 => ⟨S_, .i1⟩
  | 76 => ⟨S2000000, .i1⟩
  | 77 => ⟨S2000000x3, .f32⟩
  | 78 => ⟨S2000000x3, .i1⟩
  | 79 => ⟨S_, .f32⟩
  | 80 => ⟨S2000000x3, .f32⟩
  | 81 => ⟨S2000000x3, .f32⟩
  | 82 => ⟨S2000000x3, .f32⟩
  | 83 => ⟨S2000000x3, .f32⟩
  | 84 => ⟨S_, .f32⟩
  | 85 => ⟨S_, .f32⟩
  | 86 => ⟨S2000000x3, .f32⟩
  | 87 => ⟨S2000000x3, .i1⟩
  | 88 => ⟨S_, .f32⟩
  | 89 => ⟨S2000000x3, .f32⟩
  | 90 => ⟨S2000000x3, .i1⟩
  | 91 => ⟨S_, .f32⟩
  | 92 => ⟨S_, .f32⟩
  | 93 => ⟨S2000000x3, .f32⟩
  | 94 => ⟨S2000000x3, .f32⟩
  | 95 => ⟨S2000000x3, .f32⟩
  | 96 => ⟨S_, .f32⟩
  | 97 => ⟨S2000000x3, .f32⟩
  | 98 => ⟨S2000000x3, .f32⟩
  | 99 => ⟨S2000000x3, .f32⟩
  | 100 => ⟨S_, .f32⟩
  | 101 => ⟨S2000000x3, .f32⟩
  | 102 => ⟨S2000000x3, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S1, .i32⟩
  | 112 => ⟨S_, .i32⟩
  | 113 => ⟨S2000000x1, .i32⟩
  | 114 => ⟨S2000000x1, .i1⟩
  | 115 => ⟨S1x1, .i32⟩
  | 116 => ⟨S2000000x1, .i32⟩
  | 117 => ⟨S2000000x1, .i1⟩
  | 118 => ⟨S2000000x1, .i1⟩
  | 119 => ⟨S_, .i1⟩
  | 120 => ⟨S2000000, .i1⟩
  | 121 => ⟨S2000000x3, .f32⟩
  | 122 => ⟨S2000000x3, .i1⟩
  | 123 => ⟨S_, .f32⟩
  | 124 => ⟨S2000000x3, .f32⟩
  | 125 => ⟨S2000000x3, .f32⟩
  | 126 => ⟨S2000000x3, .f32⟩
  | 127 => ⟨S_, .f32⟩
  | _ => ⟨S2000000x3, .f32⟩

abbrev hbmTy0_3 (i : Nat) : BufTy := match i % 128 with
  | 0 => ⟨S2000000x3, .f32⟩
  | 1 => ⟨S2000000x3, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_cst_0 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_c : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_c_0 : Ref sig .tc := ⟨.hbm, 31, rfl⟩
abbrev main_call0_call0_v11 : Ref sig .tc := ⟨.hbm, 32, rfl⟩
abbrev main_call0_call0_v12 : Ref sig .tc := ⟨.hbm, 33, rfl⟩
abbrev main_call0_call0_v13 : Ref sig .tc := ⟨.hbm, 34, rfl⟩
abbrev main_call0_call0_c_1 : Ref sig .tc := ⟨.hbm, 35, rfl⟩
abbrev main_call0_call0_v14 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_v17 : Ref sig .tc := ⟨.hbm, 39, rfl⟩
abbrev main_call0_call0_call0_v0 : Ref sig .tc := ⟨.hbm, 40, rfl⟩
abbrev main_call0_call0_call0_c : Ref sig .tc := ⟨.hbm, 41, rfl⟩
abbrev main_call0_call0_call0_v1 : Ref sig .tc := ⟨.hbm, 42, rfl⟩
abbrev main_call0_call0_call0_v2 : Ref sig .tc := ⟨.hbm, 43, rfl⟩
abbrev main_call0_call0_call0_v3 : Ref sig .tc := ⟨.hbm, 44, rfl⟩
abbrev main_call0_call0_call0_v4 : Ref sig .tc := ⟨.hbm, 45, rfl⟩
abbrev main_call0_call0_call0_v5 : Ref sig .tc := ⟨.hbm, 46, rfl⟩
abbrev main_call0_call0_call0_v6 : Ref sig .tc := ⟨.hbm, 47, rfl⟩
abbrev main_call0_call0_call0_c_0 : Ref sig .tc := ⟨.hbm, 48, rfl⟩
abbrev main_call0_call0_call0_v7 : Ref sig .tc := ⟨.hbm, 49, rfl⟩
abbrev main_call0_call0_call0_v8 : Ref sig .tc := ⟨.hbm, 50, rfl⟩
abbrev main_call0_call0_call0_c_1 : Ref sig .tc := ⟨.hbm, 51, rfl⟩
abbrev main_call0_call0_call0_v9 : Ref sig .tc := ⟨.hbm, 52, rfl⟩
abbrev main_call0_call0_call0_v10 : Ref sig .tc := ⟨.hbm, 53, rfl⟩
abbrev main_call0_call0_call0_v11 : Ref sig .tc := ⟨.hbm, 54, rfl⟩
abbrev main_call0_call0_call0_v12 : Ref sig .tc := ⟨.hbm, 55, rfl⟩
abbrev main_call0_call0_call0_v13 : Ref sig .tc := ⟨.hbm, 56, rfl⟩
abbrev main_call0_call0_call0_c_2 : Ref sig .tc := ⟨.hbm, 57, rfl⟩
abbrev main_call0_call0_call0_v14 : Ref sig .tc := ⟨.hbm, 58, rfl⟩
abbrev main_call0_call0_call0_v15 : Ref sig .tc := ⟨.hbm, 59, rfl⟩
abbrev main_call0_call0_call0_c_3 : Ref sig .tc := ⟨.hbm, 60, rfl⟩
abbrev main_call0_call0_call0_v16 : Ref sig .tc := ⟨.hbm, 61, rfl⟩
abbrev main_call0_call0_call0_v17 : Ref sig .tc := ⟨.hbm, 62, rfl⟩
abbrev main_call0_call0_call0_v18 : Ref sig .tc := ⟨.hbm, 63, rfl⟩
abbrev main_call0_call0_call0_v19 : Ref sig .tc := ⟨.hbm, 64, rfl⟩
abbrev main_call0_call0_call0_v20 : Ref sig .tc := ⟨.hbm, 65, rfl⟩
abbrev main_call0_call0_call0_c_4 : Ref sig .tc := ⟨.hbm, 66, rfl⟩
abbrev main_call0_call0_call0_v21 : Ref sig .tc := ⟨.hbm, 67, rfl⟩
abbrev main_call0_call0_call0_v22 : Ref sig .tc := ⟨.hbm, 68, rfl⟩
abbrev main_call0_call0_call0_c_5 : Ref sig .tc := ⟨.hbm, 69, rfl⟩
abbrev main_call0_call0_call0_v23 : Ref sig .tc := ⟨.hbm, 70, rfl⟩
abbrev main_call0_call0_call0_v24 : Ref sig .tc := ⟨.hbm, 71, rfl⟩
abbrev main_call0_call0_call0_v25 : Ref sig .tc := ⟨.hbm, 72, rfl⟩
abbrev main_call0_call0_call0_v26 : Ref sig .tc := ⟨.hbm, 73, rfl⟩
abbrev main_call0_call0_call0_v27 : Ref sig .tc := ⟨.hbm, 74, rfl⟩
abbrev main_call0_call0_call0_c_6 : Ref sig .tc := ⟨.hbm, 75, rfl⟩
abbrev main_call0_call0_call0_v28 : Ref sig .tc := ⟨.hbm, 76, rfl⟩
abbrev main_call0_call0_call0_v29 : Ref sig .tc := ⟨.hbm, 77, rfl⟩
abbrev main_call0_call0_call0_c_7 : Ref sig .tc := ⟨.hbm, 78, rfl⟩
abbrev main_call0_call0_call0_v30 : Ref sig .tc := ⟨.hbm, 79, rfl⟩
abbrev main_call0_call0_call0_v31 : Ref sig .tc := ⟨.hbm, 80, rfl⟩
abbrev main_call0_call0_call0_v32 : Ref sig .tc := ⟨.hbm, 81, rfl⟩
abbrev main_call0_call0_call0_v33 : Ref sig .tc := ⟨.hbm, 82, rfl⟩
abbrev main_call0_call0_call0_v34 : Ref sig .tc := ⟨.hbm, 83, rfl⟩
abbrev main_call0_call0_call0_v35 : Ref sig .tc := ⟨.hbm, 84, rfl⟩
abbrev main_call0_call0_call0_v36 : Ref sig .tc := ⟨.hbm, 85, rfl⟩
abbrev main_call0_call0_call0_v37 : Ref sig .tc := ⟨.hbm, 86, rfl⟩
abbrev main_call0_call0_call0_c_8 : Ref sig .tc := ⟨.hbm, 87, rfl⟩
abbrev main_call0_call0_call0_v38 : Ref sig .tc := ⟨.hbm, 88, rfl⟩
abbrev main_call0_call0_call0_v39 : Ref sig .tc := ⟨.hbm, 89, rfl⟩
abbrev main_call0_call0_call0_v40 : Ref sig .tc := ⟨.hbm, 90, rfl⟩
abbrev main_call0_call0_call0_c_9 : Ref sig .tc := ⟨.hbm, 91, rfl⟩
abbrev main_call0_call0_call0_v41 : Ref sig .tc := ⟨.hbm, 92, rfl⟩
abbrev main_call0_call0_call0_v42 : Ref sig .tc := ⟨.hbm, 93, rfl⟩
abbrev main_call0_call0_call0_c_10 : Ref sig .tc := ⟨.hbm, 94, rfl⟩
abbrev main_call0_call0_call0_v43 : Ref sig .tc := ⟨.hbm, 95, rfl⟩
abbrev main_call0_call0_call0_v44 : Ref sig .tc := ⟨.hbm, 96, rfl⟩
abbrev main_call0_call0_call0_v45 : Ref sig .tc := ⟨.hbm, 97, rfl⟩
abbrev main_call0_call0_call0_v46 : Ref sig .tc := ⟨.hbm, 98, rfl⟩
abbrev main_call0_call0_call0_v47 : Ref sig .tc := ⟨.hbm, 99, rfl⟩
abbrev main_call0_call0_call0_c_11 : Ref sig .tc := ⟨.hbm, 100, rfl⟩
abbrev main_call0_call0_call0_v48 : Ref sig .tc := ⟨.hbm, 101, rfl⟩
abbrev main_call0_call0_call0_v49 : Ref sig .tc := ⟨.hbm, 102, rfl⟩
abbrev main_call0_call0_call0_c_12 : Ref sig .tc := ⟨.hbm, 103, rfl⟩
abbrev main_call0_call0_call0_v50 : Ref sig .tc := ⟨.hbm, 104, rfl⟩
abbrev main_call0_call0_call0_v51 : Ref sig .tc := ⟨.hbm, 105, rfl⟩
abbrev main_call0_call0_call0_v52 : Ref sig .tc := ⟨.hbm, 106, rfl⟩
abbrev main_call0_call0_call0_v53 : Ref sig .tc := ⟨.hbm, 107, rfl⟩
abbrev main_call0_call0_call0_v54 : Ref sig .tc := ⟨.hbm, 108, rfl⟩
abbrev main_call0_call0_call0_c_13 : Ref sig .tc := ⟨.hbm, 109, rfl⟩
abbrev main_call0_call0_call0_v55 : Ref sig .tc := ⟨.hbm, 110, rfl⟩
abbrev main_call0_call0_call0_v56 : Ref sig .tc := ⟨.hbm, 111, rfl⟩
abbrev main_call0_call0_call0_c_14 : Ref sig .tc := ⟨.hbm, 112, rfl⟩
abbrev main_call0_call0_call0_v57 : Ref sig .tc := ⟨.hbm, 113, rfl⟩
abbrev main_call0_call0_call0_v58 : Ref sig .tc := ⟨.hbm, 114, rfl⟩
abbrev main_call0_call0_call0_v59 : Ref sig .tc := ⟨.hbm, 115, rfl⟩
abbrev main_call0_call0_call0_v60 : Ref sig .tc := ⟨.hbm, 116, rfl⟩
abbrev main_call0_call0_call0_v61 : Ref sig .tc := ⟨.hbm, 117, rfl⟩
abbrev main_call0_call0_call0_c_15 : Ref sig .tc := ⟨.hbm, 118, rfl⟩
abbrev main_call0_call0_call0_v62 : Ref sig .tc := ⟨.hbm, 119, rfl⟩
abbrev main_call0_call0_call0_v63 : Ref sig .tc := ⟨.hbm, 120, rfl⟩
abbrev main_call0_call0_call0_c_16 : Ref sig .tc := ⟨.hbm, 121, rfl⟩
abbrev main_call0_call0_call0_v64 : Ref sig .tc := ⟨.hbm, 122, rfl⟩
abbrev main_call0_call0_call0_v65 : Ref sig .tc := ⟨.hbm, 123, rfl⟩
abbrev main_call0_call0_call0_v66 : Ref sig .tc := ⟨.hbm, 124, rfl⟩
abbrev main_call0_call0_call0_v67 : Ref sig .tc := ⟨.hbm, 125, rfl⟩
abbrev main_call0_call0_call0_v68 : Ref sig .tc := ⟨.hbm, 126, rfl⟩
abbrev main_call0_call0_call0_v69 : Ref sig .tc := ⟨.hbm, 127, rfl⟩
abbrev main_call0_call0_call0_v70 : Ref sig .tc := ⟨.hbm, 128, rfl⟩
abbrev main_call0_call0_call0_v71 : Ref sig .tc := ⟨.hbm, 129, rfl⟩
abbrev main_call0_call0_call0_c_17 : Ref sig .tc := ⟨.hbm, 130, rfl⟩
abbrev main_call0_call0_call0_v72 : Ref sig .tc := ⟨.hbm, 131, rfl⟩
abbrev main_call0_call0_call0_v73 : Ref sig .tc := ⟨.hbm, 132, rfl⟩
abbrev main_call0_call0_call0_v74 : Ref sig .tc := ⟨.hbm, 133, rfl⟩
abbrev main_call0_call0_call0_c_18 : Ref sig .tc := ⟨.hbm, 134, rfl⟩
abbrev main_call0_call0_call0_v75 : Ref sig .tc := ⟨.hbm, 135, rfl⟩
abbrev main_call0_call0_call0_v76 : Ref sig .tc := ⟨.hbm, 136, rfl⟩
abbrev main_call0_call0_call0_c_19 : Ref sig .tc := ⟨.hbm, 137, rfl⟩
abbrev main_call0_call0_call0_v77 : Ref sig .tc := ⟨.hbm, 138, rfl⟩
abbrev main_call0_call0_call0_v78 : Ref sig .tc := ⟨.hbm, 139, rfl⟩
abbrev main_call0_call0_call0_v79 : Ref sig .tc := ⟨.hbm, 140, rfl⟩
abbrev main_call0_call0_call0_v80 : Ref sig .tc := ⟨.hbm, 141, rfl⟩
abbrev main_call0_call0_call0_v81 : Ref sig .tc := ⟨.hbm, 142, rfl⟩
abbrev main_call0_call0_call0_c_20 : Ref sig .tc := ⟨.hbm, 143, rfl⟩
abbrev main_call0_call0_call0_v82 : Ref sig .tc := ⟨.hbm, 144, rfl⟩
abbrev main_call0_call0_call0_v83 : Ref sig .tc := ⟨.hbm, 145, rfl⟩
abbrev main_call0_call0_call0_c_21 : Ref sig .tc := ⟨.hbm, 146, rfl⟩
abbrev main_call0_call0_call0_v84 : Ref sig .tc := ⟨.hbm, 147, rfl⟩
abbrev main_call0_call0_call0_v85 : Ref sig .tc := ⟨.hbm, 148, rfl⟩
abbrev main_call0_call0_call0_v86 : Ref sig .tc := ⟨.hbm, 149, rfl⟩
abbrev main_call0_call0_call0_v87 : Ref sig .tc := ⟨.hbm, 150, rfl⟩
abbrev main_call0_call0_call0_v88 : Ref sig .tc := ⟨.hbm, 151, rfl⟩
abbrev main_call0_call0_call0_c_22 : Ref sig .tc := ⟨.hbm, 152, rfl⟩
abbrev main_call0_call0_call0_v89 : Ref sig .tc := ⟨.hbm, 153, rfl⟩
abbrev main_call0_call0_call0_v90 : Ref sig .tc := ⟨.hbm, 154, rfl⟩
abbrev main_call0_call0_call0_c_23 : Ref sig .tc := ⟨.hbm, 155, rfl⟩
abbrev main_call0_call0_call0_v91 : Ref sig .tc := ⟨.hbm, 156, rfl⟩
abbrev main_call0_call0_call0_v92 : Ref sig .tc := ⟨.hbm, 157, rfl⟩
abbrev main_call0_call0_call0_v93 : Ref sig .tc := ⟨.hbm, 158, rfl⟩
abbrev main_call0_call0_call0_v94 : Ref sig .tc := ⟨.hbm, 159, rfl⟩
abbrev main_call0_call0_call0_v95 : Ref sig .tc := ⟨.hbm, 160, rfl⟩
abbrev main_call0_call0_call0_c_24 : Ref sig .tc := ⟨.hbm, 161, rfl⟩
abbrev main_call0_call0_call0_v96 : Ref sig .tc := ⟨.hbm, 162, rfl⟩
abbrev main_call0_call0_call0_v97 : Ref sig .tc := ⟨.hbm, 163, rfl⟩
abbrev main_call0_call0_call0_c_25 : Ref sig .tc := ⟨.hbm, 164, rfl⟩
abbrev main_call0_call0_call0_v98 : Ref sig .tc := ⟨.hbm, 165, rfl⟩
abbrev main_call0_call0_call0_v99 : Ref sig .tc := ⟨.hbm, 166, rfl⟩
abbrev main_call0_call0_call0_v100 : Ref sig .tc := ⟨.hbm, 167, rfl⟩
abbrev main_call0_call0_call0_v101 : Ref sig .tc := ⟨.hbm, 168, rfl⟩
abbrev main_call0_call0_call0_v102 : Ref sig .tc := ⟨.hbm, 169, rfl⟩
abbrev main_call0_call0_call0_v103 : Ref sig .tc := ⟨.hbm, 170, rfl⟩
abbrev main_call0_call0_call0_v104 : Ref sig .tc := ⟨.hbm, 171, rfl⟩
abbrev main_call0_call0_call0_v105 : Ref sig .tc := ⟨.hbm, 172, rfl⟩
abbrev main_call0_call0_call0_c_26 : Ref sig .tc := ⟨.hbm, 173, rfl⟩
abbrev main_call0_call0_call0_v106 : Ref sig .tc := ⟨.hbm, 174, rfl⟩
abbrev main_call0_call0_call0_v107 : Ref sig .tc := ⟨.hbm, 175, rfl⟩
abbrev main_call0_call0_call0_v108 : Ref sig .tc := ⟨.hbm, 176, rfl⟩
abbrev main_call0_call0_call0_c_27 : Ref sig .tc := ⟨.hbm, 177, rfl⟩
abbrev main_call0_call0_call0_v109 : Ref sig .tc := ⟨.hbm, 178, rfl⟩
abbrev main_call0_call0_call0_v110 : Ref sig .tc := ⟨.hbm, 179, rfl⟩
abbrev main_call0_call0_call0_c_28 : Ref sig .tc := ⟨.hbm, 180, rfl⟩
abbrev main_call0_call0_call0_v111 : Ref sig .tc := ⟨.hbm, 181, rfl⟩
abbrev main_call0_call0_call0_v112 : Ref sig .tc := ⟨.hbm, 182, rfl⟩
abbrev main_call0_call0_call0_v113 : Ref sig .tc := ⟨.hbm, 183, rfl⟩
abbrev main_call0_call0_call0_v114 : Ref sig .tc := ⟨.hbm, 184, rfl⟩
abbrev main_call0_call0_call0_v115 : Ref sig .tc := ⟨.hbm, 185, rfl⟩
abbrev main_call0_call0_call0_c_29 : Ref sig .tc := ⟨.hbm, 186, rfl⟩
abbrev main_call0_call0_call0_v116 : Ref sig .tc := ⟨.hbm, 187, rfl⟩
abbrev main_call0_call0_call0_v117 : Ref sig .tc := ⟨.hbm, 188, rfl⟩
abbrev main_call0_call0_call0_c_30 : Ref sig .tc := ⟨.hbm, 189, rfl⟩
abbrev main_call0_call0_call0_v118 : Ref sig .tc := ⟨.hbm, 190, rfl⟩
abbrev main_call0_call0_call0_v119 : Ref sig .tc := ⟨.hbm, 191, rfl⟩
abbrev main_call0_call0_call0_v120 : Ref sig .tc := ⟨.hbm, 192, rfl⟩
abbrev main_call0_call0_call0_v121 : Ref sig .tc := ⟨.hbm, 193, rfl⟩
abbrev main_call0_call0_call0_v122 : Ref sig .tc := ⟨.hbm, 194, rfl⟩
abbrev main_call0_call0_call0_c_31 : Ref sig .tc := ⟨.hbm, 195, rfl⟩
abbrev main_call0_call0_call0_v123 : Ref sig .tc := ⟨.hbm, 196, rfl⟩
abbrev main_call0_call0_call0_v124 : Ref sig .tc := ⟨.hbm, 197, rfl⟩
abbrev main_call0_call0_call0_c_32 : Ref sig .tc := ⟨.hbm, 198, rfl⟩
abbrev main_call0_call0_call0_v125 : Ref sig .tc := ⟨.hbm, 199, rfl⟩
abbrev main_call0_call0_call0_v126 : Ref sig .tc := ⟨.hbm, 200, rfl⟩
abbrev main_call0_call0_call0_v127 : Ref sig .tc := ⟨.hbm, 201, rfl⟩
abbrev main_call0_call0_call0_v128 : Ref sig .tc := ⟨.hbm, 202, rfl⟩
abbrev main_call0_call0_call0_v129 : Ref sig .tc := ⟨.hbm, 203, rfl⟩
abbrev main_call0_call0_call0_c_33 : Ref sig .tc := ⟨.hbm, 204, rfl⟩
abbrev main_call0_call0_call0_v130 : Ref sig .tc := ⟨.hbm, 205, rfl⟩
abbrev main_call0_call0_call0_v131 : Ref sig .tc := ⟨.hbm, 206, rfl⟩
abbrev main_call0_call0_call0_c_34 : Ref sig .tc := ⟨.hbm, 207, rfl⟩
abbrev main_call0_call0_call0_v132 : Ref sig .tc := ⟨.hbm, 208, rfl⟩
abbrev main_call0_call0_call0_v133 : Ref sig .tc := ⟨.hbm, 209, rfl⟩
abbrev main_call0_call0_call0_v134 : Ref sig .tc := ⟨.hbm, 210, rfl⟩
abbrev main_call0_call0_call0_v135 : Ref sig .tc := ⟨.hbm, 211, rfl⟩
abbrev main_call0_call0_call0_v136 : Ref sig .tc := ⟨.hbm, 212, rfl⟩
abbrev main_call0_call0_call0_v137 : Ref sig .tc := ⟨.hbm, 213, rfl⟩
abbrev main_call0_call0_call0_v138 : Ref sig .tc := ⟨.hbm, 214, rfl⟩
abbrev main_call0_call0_call0_v139 : Ref sig .tc := ⟨.hbm, 215, rfl⟩
abbrev main_call0_call0_call0_c_35 : Ref sig .tc := ⟨.hbm, 216, rfl⟩
abbrev main_call0_call0_call0_v140 : Ref sig .tc := ⟨.hbm, 217, rfl⟩
abbrev main_call0_call0_call0_v141 : Ref sig .tc := ⟨.hbm, 218, rfl⟩
abbrev main_call0_call0_call0_v142 : Ref sig .tc := ⟨.hbm, 219, rfl⟩
abbrev main_call0_call0_call0_c_36 : Ref sig .tc := ⟨.hbm, 220, rfl⟩
abbrev main_call0_call0_call0_v143 : Ref sig .tc := ⟨.hbm, 221, rfl⟩
abbrev main_call0_call0_call0_v144 : Ref sig .tc := ⟨.hbm, 222, rfl⟩
abbrev main_call0_call0_call0_c_37 : Ref sig .tc := ⟨.hbm, 223, rfl⟩
abbrev main_call0_call0_call0_v145 : Ref sig .tc := ⟨.hbm, 224, rfl⟩
abbrev main_call0_call0_call0_v146 : Ref sig .tc := ⟨.hbm, 225, rfl⟩
abbrev main_call0_call0_call0_v147 : Ref sig .tc := ⟨.hbm, 226, rfl⟩
abbrev main_call0_call0_call0_v148 : Ref sig .tc := ⟨.hbm, 227, rfl⟩
abbrev main_call0_call0_call0_v149 : Ref sig .tc := ⟨.hbm, 228, rfl⟩
abbrev main_call0_call0_call0_c_38 : Ref sig .tc := ⟨.hbm, 229, rfl⟩
abbrev main_call0_call0_call0_v150 : Ref sig .tc := ⟨.hbm, 230, rfl⟩
abbrev main_call0_call0_call0_v151 : Ref sig .tc := ⟨.hbm, 231, rfl⟩
abbrev main_call0_call0_call0_c_39 : Ref sig .tc := ⟨.hbm, 232, rfl⟩
abbrev main_call0_call0_call0_v152 : Ref sig .tc := ⟨.hbm, 233, rfl⟩
abbrev main_call0_call0_call0_v153 : Ref sig .tc := ⟨.hbm, 234, rfl⟩
abbrev main_call0_call0_call0_v154 : Ref sig .tc := ⟨.hbm, 235, rfl⟩
abbrev main_call0_call0_call0_v155 : Ref sig .tc := ⟨.hbm, 236, rfl⟩
abbrev main_call0_call0_call0_v156 : Ref sig .tc := ⟨.hbm, 237, rfl⟩
abbrev main_call0_call0_call0_c_40 : Ref sig .tc := ⟨.hbm, 238, rfl⟩
abbrev main_call0_call0_call0_v157 : Ref sig .tc := ⟨.hbm, 239, rfl⟩
abbrev main_call0_call0_call0_v158 : Ref sig .tc := ⟨.hbm, 240, rfl⟩
abbrev main_call0_call0_call0_c_41 : Ref sig .tc := ⟨.hbm, 241, rfl⟩
abbrev main_call0_call0_call0_v159 : Ref sig .tc := ⟨.hbm, 242, rfl⟩
abbrev main_call0_call0_call0_v160 : Ref sig .tc := ⟨.hbm, 243, rfl⟩
abbrev main_call0_call0_call0_v161 : Ref sig .tc := ⟨.hbm, 244, rfl⟩
abbrev main_call0_call0_call0_v162 : Ref sig .tc := ⟨.hbm, 245, rfl⟩
abbrev main_call0_call0_call0_v163 : Ref sig .tc := ⟨.hbm, 246, rfl⟩
abbrev main_call0_call0_call0_c_42 : Ref sig .tc := ⟨.hbm, 247, rfl⟩
abbrev main_call0_call0_call0_v164 : Ref sig .tc := ⟨.hbm, 248, rfl⟩
abbrev main_call0_call0_call0_v165 : Ref sig .tc := ⟨.hbm, 249, rfl⟩
abbrev main_call0_call0_call0_c_43 : Ref sig .tc := ⟨.hbm, 250, rfl⟩
abbrev main_call0_call0_call0_v166 : Ref sig .tc := ⟨.hbm, 251, rfl⟩
abbrev main_call0_call0_call0_v167 : Ref sig .tc := ⟨.hbm, 252, rfl⟩
abbrev main_call0_call0_call0_v168 : Ref sig .tc := ⟨.hbm, 253, rfl⟩
abbrev main_call0_call0_call0_v169 : Ref sig .tc := ⟨.hbm, 254, rfl⟩
abbrev main_call0_call0_call0_v170 : Ref sig .tc := ⟨.hbm, 255, rfl⟩
abbrev main_call0_call0_v18_0 : Ref sig .tc := ⟨.hbm, 256, rfl⟩
abbrev main_call0_call0_call0_v172 : Ref sig .tc := ⟨.hbm, 257, rfl⟩
abbrev main_call0_call0_call0_v173 : Ref sig .tc := ⟨.hbm, 258, rfl⟩
abbrev main_call0_call0_call0_c_44 : Ref sig .tc := ⟨.hbm, 259, rfl⟩
abbrev main_call0_call0_call0_v174 : Ref sig .tc := ⟨.hbm, 260, rfl⟩
abbrev main_call0_call0_v18_1 : Ref sig .tc := ⟨.hbm, 261, rfl⟩
abbrev main_call0_call0_v19 : Ref sig .tc := ⟨.hbm, 262, rfl⟩
abbrev main_call0_call0_c_2 : Ref sig .tc := ⟨.hbm, 263, rfl⟩
abbrev main_call0_call0_v20 : Ref sig .tc := ⟨.hbm, 264, rfl⟩
abbrev main_call0_call0_v21 : Ref sig .tc := ⟨.hbm, 265, rfl⟩
abbrev main_call0_call0_c_3 : Ref sig .tc := ⟨.hbm, 266, rfl⟩
abbrev main_call0_call0_v22 : Ref sig .tc := ⟨.hbm, 267, rfl⟩
abbrev main_call0_call0_v23 : Ref sig .tc := ⟨.hbm, 268, rfl⟩
abbrev main_call0_call0_v24 : Ref sig .tc := ⟨.hbm, 269, rfl⟩
abbrev main_call0_call0_cst : Ref sig .tc := ⟨.hbm, 270, rfl⟩
abbrev main_call0_call0_v25 : Ref sig .tc := ⟨.hbm, 271, rfl⟩
abbrev main_call0_call0_v26 : Ref sig .tc := ⟨.hbm, 272, rfl⟩
abbrev main_call0_call0_v27 : Ref sig .tc := ⟨.hbm, 273, rfl⟩
abbrev main_call0_call0_v28 : Ref sig .tc := ⟨.hbm, 274, rfl⟩
abbrev main_call0_call0_v29 : Ref sig .tc := ⟨.hbm, 275, rfl⟩
abbrev main_call0_call0_v30 : Ref sig .tc := ⟨.hbm, 276, rfl⟩
abbrev main_call0_call0_v31 : Ref sig .tc := ⟨.hbm, 277, rfl⟩
abbrev main_call0_call0_v32 : Ref sig .tc := ⟨.hbm, 278, rfl⟩
abbrev main_call0_v0 : Ref sig .tc := ⟨.hbm, 279, rfl⟩
abbrev main_call0_v1 : Ref sig .tc := ⟨.hbm, 280, rfl⟩
abbrev main_call0_v2 : Ref sig .tc := ⟨.hbm, 281, rfl⟩
abbrev main_call0_v3 : Ref sig .tc := ⟨.hbm, 282, rfl⟩
abbrev main_v8 : Ref sig .tc := ⟨.hbm, 283, rfl⟩
abbrev main_v9 : Ref sig .tc := ⟨.hbm, 284, rfl⟩
abbrev main_v10 : Ref sig .tc := ⟨.hbm, 285, rfl⟩
abbrev main_v11 : Ref sig .tc := ⟨.hbm, 286, rfl⟩
abbrev main_call1_v0 : Ref sig .tc := ⟨.hbm, 287, rfl⟩
abbrev main_call1_cst : Ref sig .tc := ⟨.hbm, 288, rfl⟩
abbrev main_call1_c : Ref sig .tc := ⟨.hbm, 289, rfl⟩
abbrev main_call1_v1_0 : Ref sig .tc := ⟨.hbm, 290, rfl⟩
abbrev main_v12 : Ref sig .tc := ⟨.hbm, 291, rfl⟩
abbrev main_call2_c : Ref sig .tc := ⟨.hbm, 292, rfl⟩
abbrev main_call2_v0 : Ref sig .tc := ⟨.hbm, 293, rfl⟩
abbrev main_call2_v1 : Ref sig .tc := ⟨.hbm, 294, rfl⟩
abbrev main_call2_c_0 : Ref sig .tc := ⟨.hbm, 295, rfl⟩
abbrev main_call2_v2 : Ref sig .tc := ⟨.hbm, 296, rfl⟩
abbrev main_call2_v3 : Ref sig .tc := ⟨.hbm, 297, rfl⟩
abbrev main_call2_v4 : Ref sig .tc := ⟨.hbm, 298, rfl⟩
abbrev main_call2_v5 : Ref sig .tc := ⟨.hbm, 299, rfl⟩
abbrev main_call2_c_1 : Ref sig .tc := ⟨.hbm, 300, rfl⟩
abbrev main_call2_c_2 : Ref sig .tc := ⟨.hbm, 301, rfl⟩
abbrev main_call2_v6 : Ref sig .tc := ⟨.hbm, 302, rfl⟩
abbrev main_call2_v7 : Ref sig .tc := ⟨.hbm, 303, rfl⟩
abbrev main_call2_v8 : Ref sig .tc := ⟨.hbm, 304, rfl⟩
abbrev main_call2_v9 : Ref sig .tc := ⟨.hbm, 305, rfl⟩
abbrev main_call2_v10 : Ref sig .tc := ⟨.hbm, 306, rfl⟩
abbrev main_call2_v11 : Ref sig .tc := ⟨.hbm, 307, rfl⟩
abbrev main_call2_c_3 : Ref sig .tc := ⟨.hbm, 308, rfl⟩
abbrev main_call2_v12 : Ref sig .tc := ⟨.hbm, 309, rfl⟩
abbrev main_call2_v13 : Ref sig .tc := ⟨.hbm, 310, rfl⟩
abbrev main_call2_v14 : Ref sig .tc := ⟨.hbm, 311, rfl⟩
abbrev main_call2_cst : Ref sig .tc := ⟨.hbm, 312, rfl⟩
abbrev main_call2_v15 : Ref sig .tc := ⟨.hbm, 313, rfl⟩
abbrev main_v13 : Ref sig .tc := ⟨.hbm, 314, rfl⟩
abbrev main_call3_c : Ref sig .tc := ⟨.hbm, 315, rfl⟩
abbrev main_call3_v0 : Ref sig .tc := ⟨.hbm, 316, rfl⟩
abbrev main_call3_v1 : Ref sig .tc := ⟨.hbm, 317, rfl⟩
abbrev main_call3_c_0 : Ref sig .tc := ⟨.hbm, 318, rfl⟩
abbrev main_call3_v2 : Ref sig .tc := ⟨.hbm, 319, rfl⟩
abbrev main_call3_v3 : Ref sig .tc := ⟨.hbm, 320, rfl⟩
abbrev main_call3_v4 : Ref sig .tc := ⟨.hbm, 321, rfl⟩
abbrev main_call3_v5 : Ref sig .tc := ⟨.hbm, 322, rfl⟩
abbrev main_call3_c_1 : Ref sig .tc := ⟨.hbm, 323, rfl⟩
abbrev main_call3_c_2 : Ref sig .tc := ⟨.hbm, 324, rfl⟩
abbrev main_call3_v6 : Ref sig .tc := ⟨.hbm, 325, rfl⟩
abbrev main_call3_v7 : Ref sig .tc := ⟨.hbm, 326, rfl⟩
abbrev main_call3_v8 : Ref sig .tc := ⟨.hbm, 327, rfl⟩
abbrev main_call3_v9 : Ref sig .tc := ⟨.hbm, 328, rfl⟩
abbrev main_call3_v10 : Ref sig .tc := ⟨.hbm, 329, rfl⟩
abbrev main_call3_v11 : Ref sig .tc := ⟨.hbm, 330, rfl⟩
abbrev main_call3_c_3 : Ref sig .tc := ⟨.hbm, 331, rfl⟩
abbrev main_call3_v12 : Ref sig .tc := ⟨.hbm, 332, rfl⟩
abbrev main_call3_v13 : Ref sig .tc := ⟨.hbm, 333, rfl⟩
abbrev main_call3_v14 : Ref sig .tc := ⟨.hbm, 334, rfl⟩
abbrev main_call3_cst : Ref sig .tc := ⟨.hbm, 335, rfl⟩
abbrev main_call3_v15 : Ref sig .tc := ⟨.hbm, 336, rfl⟩
abbrev main_v14 : Ref sig .tc := ⟨.hbm, 337, rfl⟩
abbrev main_v15 : Ref sig .tc := ⟨.hbm, 338, rfl⟩
abbrev main_v16 : Ref sig .tc := ⟨.hbm, 339, rfl⟩
abbrev main_call4_cst : Ref sig .tc := ⟨.hbm, 340, rfl⟩
abbrev main_call4_call0_cst : Ref sig .tc := ⟨.hbm, 341, rfl⟩
abbrev main_call4_call0_v0 : Ref sig .tc := ⟨.hbm, 342, rfl⟩
abbrev main_call4_call0_v1 : Ref sig .tc := ⟨.hbm, 343, rfl⟩
abbrev main_call4_call0_cst_0 : Ref sig .tc := ⟨.hbm, 344, rfl⟩
abbrev main_call4_call0_v2 : Ref sig .tc := ⟨.hbm, 345, rfl⟩
abbrev main_call4_call0_v3 : Ref sig .tc := ⟨.hbm, 346, rfl⟩
abbrev main_call4_call0_cst_1 : Ref sig .tc := ⟨.hbm, 347, rfl⟩
abbrev main_call4_call0_call0_v0 : Ref sig .tc := ⟨.hbm, 348, rfl⟩
abbrev main_call4_call0_call0_v1 : Ref sig .tc := ⟨.hbm, 349, rfl⟩
abbrev main_call4_call0_v4 : Ref sig .tc := ⟨.hbm, 350, rfl⟩
abbrev main_call4_call0_v5 : Ref sig .tc := ⟨.hbm, 351, rfl⟩
abbrev main_call4_call0_v6 : Ref sig .tc := ⟨.hbm, 352, rfl⟩
abbrev main_call4_call0_v7 : Ref sig .tc := ⟨.hbm, 353, rfl⟩
abbrev main_call4_call0_v8 : Ref sig .tc := ⟨.hbm, 354, rfl⟩
abbrev main_call4_v0 : Ref sig .tc := ⟨.hbm, 355, rfl⟩
abbrev main_call4_cst_0 : Ref sig .tc := ⟨.hbm, 356, rfl⟩
abbrev main_call4_v1 : Ref sig .tc := ⟨.hbm, 357, rfl⟩
abbrev main_v17 : Ref sig .tc := ⟨.hbm, 358, rfl⟩
abbrev main_call5_c : Ref sig .tc := ⟨.hbm, 359, rfl⟩
abbrev main_call5_v0 : Ref sig .tc := ⟨.hbm, 360, rfl⟩
abbrev main_call5_v1 : Ref sig .tc := ⟨.hbm, 361, rfl⟩
abbrev main_call5_c_0 : Ref sig .tc := ⟨.hbm, 362, rfl⟩
abbrev main_call5_v2 : Ref sig .tc := ⟨.hbm, 363, rfl⟩
abbrev main_call5_v3 : Ref sig .tc := ⟨.hbm, 364, rfl⟩
abbrev main_call5_v4 : Ref sig .tc := ⟨.hbm, 365, rfl⟩
abbrev main_call5_v5 : Ref sig .tc := ⟨.hbm, 366, rfl⟩
abbrev main_call5_c_1 : Ref sig .tc := ⟨.hbm, 367, rfl⟩
abbrev main_call5_c_2 : Ref sig .tc := ⟨.hbm, 368, rfl⟩
abbrev main_call5_v6 : Ref sig .tc := ⟨.hbm, 369, rfl⟩
abbrev main_call5_v7 : Ref sig .tc := ⟨.hbm, 370, rfl⟩
abbrev main_call5_v8 : Ref sig .tc := ⟨.hbm, 371, rfl⟩
abbrev main_call5_v9 : Ref sig .tc := ⟨.hbm, 372, rfl⟩
abbrev main_call5_v10 : Ref sig .tc := ⟨.hbm, 373, rfl⟩
abbrev main_call5_v11 : Ref sig .tc := ⟨.hbm, 374, rfl⟩
abbrev main_call5_c_3 : Ref sig .tc := ⟨.hbm, 375, rfl⟩
abbrev main_call5_v12 : Ref sig .tc := ⟨.hbm, 376, rfl⟩
abbrev main_call5_v13 : Ref sig .tc := ⟨.hbm, 377, rfl⟩
abbrev main_call5_v14 : Ref sig .tc := ⟨.hbm, 378, rfl⟩
abbrev main_call5_cst : Ref sig .tc := ⟨.hbm, 379, rfl⟩
abbrev main_call5_v15 : Ref sig .tc := ⟨.hbm, 380, rfl⟩
abbrev main_v18 : Ref sig .tc := ⟨.hbm, 381, rfl⟩
abbrev main_v19 : Ref sig .tc := ⟨.hbm, 382, rfl⟩
abbrev main_cst : Ref sig .tc := ⟨.hbm, 383, rfl⟩
abbrev main_v20 : Ref sig .tc := ⟨.hbm, 384, rfl⟩
abbrev main_v21 : Ref sig .tc := ⟨.hbm, 385, rfl⟩

abbrev nD : Nat := 1
abbrev τ : Topo := Topo.v7x

variable {F : FTy → Type} [FloatOps F]
-- ==== Proof.KernelHost.lean ====
/-
  What the kernel is given, at an index: the table of the eight transforms, the counters within a block, the points and
  the colours, block by block.
-/
module

public import proofs.«01_k».proof.Proof.Gen.KernelIdeal.Run
public import Idealize.ShloMosaic.Lib.Claim
public import Idealize.ShloMosaic.Lib.Pipeline.Value
public import Idealize.ShloMosaic.Lib.ValueIdxCore
public import Idealize.ShloMosaic.Lib.ValueIdxCoords
public import Idealize.ShloMosaic.Lib.ValueLayout

@[expose] public section

set_option maxRecDepth 16384

noncomputable section

namespace Cert.KernelIdeal.Gen

open Idealize.ShloMosaic Idealize.ShloMosaic.TcCoe Idealize.ShloMosaic.ValueIdx

variable {F : FTy → Type} [FloatOps F]

/-- The place `(b, g, p)` of the blocks, as a point's number. -/
def number (b : Fin 25) (g : Fin 625) (p : Fin 128) : Fin 2000000 := ⟨(b.val * 625 + g.val) * 128 + p.val, by omega⟩

/-- An array of points laid out in blocks, at a place. -/
theorem blocks_apply (x : S2000000x3.Idx → F .f32) (q : Fin 3) (b : Fin 25) (g : Fin 625) (p : Fin 128) :
    shapeCast S3x25x625x128 (transpose S3x2000000 [1, 0] x transposes_S2000000x3_S3x2000000_1_0) shapeCasts_S3x2000000_S3x25x625x128 (ix4 q b g p)
      = x (ix2 (number b g p) q) := by
  generalize hy : transpose S3x2000000 [1, 0] x transposes_S2000000x3_S3x2000000_1_0 = y
  refine (shapeCast_apply y shapeCasts_S3x2000000_S3x25x625x128 (ix4 q b g p) (ix2 q (number b g p)) (by
    rw [Shape.rowMajor_val_four, Shape.rowMajor_val_two]
    show q.val * 2000000 + ((b.val * 625 + g.val) * 128 + p.val) = ((q.val * 25 + b.val) * 625 + g.val) * 128 + p.val
    omega)).trans ?_
  rw [← hy]
  exact transpose_apply [1, 0] x transposes_S2000000x3_S3x2000000_1_0 (ix2 q (number b g p)) (ix2 (number b g p) q)
    (fun a => match a with
      | ⟨0, _⟩ => rfl
      | ⟨1, _⟩ => rfl)

/-- The transforms laid out in rows: a choice's matrix row by row, its bias, its colour. -/
def table (x : S8x3x3.Idx → F .f32) (y z : S8x3.Idx → F .f32) : S15x8.Idx → F .f32 :=
  transpose S15x8 [1, 0] (concatenate S8x15 1 [⟨S8x9, shapeCast S8x9 x shapeCasts_S8x3x3_S8x9⟩, ⟨S8x3, y⟩, ⟨S8x3, z⟩]
    concatenates_S8x9_S8x3_S8x3_S8x15_d1) transposes_S8x15_S15x8_1_0

theorem table_apply (x : S8x3x3.Idx → F .f32) (y z : S8x3.Idx → F .f32) (a : Fin 15) (k : Fin 8) :
    table x y z (ix2 a k) = concatenate S8x15 1 [⟨S8x9, shapeCast S8x9 x shapeCasts_S8x3x3_S8x9⟩, ⟨S8x3, y⟩, ⟨S8x3, z⟩]
      concatenates_S8x9_S8x3_S8x3_S8x15_d1 (ix2 k a) :=
  transpose_apply [1, 0] _ transposes_S8x15_S15x8_1_0 (ix2 a k) (ix2 k a) fun b => match b with
    | ⟨0, _⟩ => rfl
    | ⟨1, _⟩ => rfl

theorem table_matrix (x : S8x3x3.Idx → F .f32) (y z : S8x3.Idx → F .f32) (a : Fin 15) (r q : Fin 3) (k : Fin 8) (ha : a.val = 3 * r.val + q.val) :
    table x y z (ix2 a k) = x (ix3 k r q) := by
  rw [table_apply]
  refine (concatenate_apply_piece 1 [⟨S8x9, shapeCast S8x9 x shapeCasts_S8x3x3_S8x9⟩, ⟨S8x3, y⟩, ⟨S8x3, z⟩] concatenates_S8x9_S8x3_S8x3_S8x15_d1
    (ix2 k a) 0 (Nat.succ_pos _) S8x9 (shapeCast S8x9 x shapeCasts_S8x3x3_S8x9) rfl rfl 0 rfl (ix2 k ⟨a.val, by omega⟩)
    (fun b hb => match b with
      | ⟨0, _⟩ => rfl
      | ⟨1, _⟩ => absurd rfl hb) (by show 0 + a.val = a.val; omega)).trans ?_
  exact shapeCast_apply x shapeCasts_S8x3x3_S8x9 _ (ix3 k r q) (by
    rw [Shape.rowMajor_val_three, Shape.rowMajor_val_two]
    show (k.val * 3 + r.val) * 3 + q.val = k.val * 9 + a.val
    omega)

theorem table_bias (x : S8x3x3.Idx → F .f32) (y z : S8x3.Idx → F .f32) (a : Fin 15) (q : Fin 3) (k : Fin 8) (ha : a.val = 9 + q.val) :
    table x y z (ix2 a k) = y (ix2 k q) := by
  rw [table_apply]
  exact concatenate_apply_piece 1 [⟨S8x9, shapeCast S8x9 x shapeCasts_S8x3x3_S8x9⟩, ⟨S8x3, y⟩, ⟨S8x3, z⟩] concatenates_S8x9_S8x3_S8x3_S8x15_d1
    (ix2 k a) 1 (Nat.succ_lt_succ (Nat.succ_pos _)) S8x3 y rfl rfl 9 rfl (ix2 k q)
    (fun b hb => match b with
      | ⟨0, _⟩ => rfl
      | ⟨1, _⟩ => absurd rfl hb) (by show 9 + q.val = a.val; omega)

theorem table_colour (x : S8x3x3.Idx → F .f32) (y z : S8x3.Idx → F .f32) (a : Fin 15) (q : Fin 3) (k : Fin 8) (ha : a.val = 12 + q.val) :
    table x y z (ix2 a k) = z (ix2 k q) := by
  rw [table_apply]
  exact concatenate_apply_piece 1 [⟨S8x9, shapeCast S8x9 x shapeCasts_S8x3x3_S8x9⟩, ⟨S8x3, y⟩, ⟨S8x3, z⟩] concatenates_S8x9_S8x3_S8x3_S8x15_d1
    (ix2 k a) 2 (Nat.succ_lt_succ (Nat.succ_lt_succ (Nat.succ_pos _))) S8x3 z rfl rfl 12 rfl (ix2 k q)
    (fun b hb => match b with
      | ⟨0, _⟩ => rfl
      | ⟨1, _⟩ => absurd rfl hb) (by show 12 + q.val = a.val; omega)

variable (m : (ℓ : Loc nD τ sig) → Buf (Elt F) ℓ) (c : Dev nD)

theorem V_table : (V m c main_v2 : S15x8.Idx → F .f32) = table (m (c.tc.loc main_arg2)) (m (c.tc.loc main_arg3)) (m (c.tc.loc main_arg4)) := by
  entry_read
  rfl

theorem V_points (q : Fin 3) (b : Fin 25) (g : Fin 625) (p : Fin 128) :
    (V m c main_v15 : S3x25x625x128.Idx → F .f32) (ix4 q b g p) = (m (c.tc.loc main_arg0) : S2000000x3.Idx → F .f32) (ix2 (number b g p) q) := by
  entry_read
  exact blocks_apply _ q b g p

theorem V_colours (q : Fin 3) (b : Fin 25) (g : Fin 625) (p : Fin 128) :
    (V m c main_v17 : S3x25x625x128.Idx → F .f32) (ix4 q b g p) = (m (c.tc.loc main_arg1) : S2000000x3.Idx → F .f32) (ix2 (number b g p) q) := by
  entry_read
  exact blocks_apply _ q b g p

theorem V_offsets (g : Fin 625) (p : Fin 128) :
    (V m c main_v13 : S625x128.Idx → BitVec 32) (ix2 g p) = BitVec.ofNat 32 g.val * 1024#32 + BitVec.ofNat 32 p.val * 8#32 := by
  entry_read
  rfl

/-! ## The blocks -/

/-- Where the windows place block `t`. -/
theorem index_facts : ∀ t : Fin cfg0.N,
    (win0_0.index t 0 = 0 ∧ win0_0.index t 1 = 0) ∧ (win0_1.index t 0 = 0 ∧ win0_1.index t 1 = 0)
      ∧ (win0_2.index t 0 = 0 ∧ win0_2.index t 1 = t.val ∧ win0_2.index t 2 = 0 ∧ win0_2.index t 3 = 0)
      ∧ (win0_3.index t 0 = 0 ∧ win0_3.index t 1 = t.val ∧ win0_3.index t 2 = 0 ∧ win0_3.index t 3 = 0)
      ∧ (win0_4.index t 0 = 0 ∧ win0_4.index t 1 = t.val ∧ win0_4.index t 2 = 0 ∧ win0_4.index t 3 = 0)
      ∧ (win0_5.index t 0 = 0 ∧ win0_5.index t 1 = t.val ∧ win0_5.index t 2 = 0 ∧ win0_5.index t 3 = 0)
      ∧ (grid0.coords t 0).val = t.val :=
  (by decide +kernel : ∀ t : Fin grid0.N, _)

/-- A point of the grid as a block's number. -/
def block (t : Fin cfg0.N) : Fin 25 := ⟨t.val, lt_of_lt_of_eq t.isLt N_0⟩

variable (t : Fin cfg0.N)

theorem iblk_table : iblk m c 0 t = table (m (c.tc.loc main_arg2)) (m (c.tc.loc main_arg3)) (m (c.tc.loc main_arg4)) := by
  obtain ⟨⟨e0, e1⟩, -⟩ := index_facts t
  rw [← V_table m c]
  funext j
  show V m c main_v2 (((cfg0.win 0).blk t).view.emb j) = V m c main_v2 j
  refine congrArg (V m c main_v2) ?_
  funext a
  refine Fin.ext ?_
  match a with
  | ⟨0, _⟩ => show win0_0.index t 0 * 15 + 1 * (j 0).val = (j 0).val; omega
  | ⟨1, _⟩ => show win0_0.index t 1 * 8 + 1 * (j 1).val = (j 1).val; omega

theorem iblk_offsets (g : Fin 625) (p : Fin 128) :
    (iblk m c 1 t : S625x128.Idx → BitVec 32) (ix2 g p) = BitVec.ofNat 32 g.val * 1024#32 + BitVec.ofNat 32 p.val * 8#32 := by
  obtain ⟨-, ⟨e0, e1⟩, -⟩ := index_facts t
  rw [← V_offsets m c]
  show V m c main_v13 (((cfg0.win 1).blk t).view.emb (ix2 g p)) = V m c main_v13 (ix2 g p)
  refine congrArg (V m c main_v13) ?_
  funext a
  refine Fin.ext ?_
  match a with
  | ⟨0, _⟩ => show win0_1.index t 0 * 625 + 1 * g.val = g.val; omega
  | ⟨1, _⟩ => show win0_1.index t 1 * 128 + 1 * p.val = p.val; omega

theorem iblk_points (q : Fin 3) (g : Fin 625) (p : Fin 128) :
    (iblk m c 2 t : S3x1x625x128.Idx → F .f32) (ix4 q 0 g p) = (m (c.tc.loc main_arg0) : S2000000x3.Idx → F .f32) (ix2 (number (block t) g p) q) := by
  obtain ⟨-, -, ⟨e0, e1, e2, e3⟩, -⟩ := index_facts t
  rw [← V_points m c]
  show V m c main_v15 (((cfg0.win 2).blk t).view.emb (ix4 q 0 g p)) = V m c main_v15 (ix4 q (block t) g p)
  refine congrArg (V m c main_v15) ?_
  funext a
  refine Fin.ext ?_
  match a with
  | ⟨0, _⟩ => show win0_2.index t 0 * 3 + 1 * q.val = q.val; omega
  | ⟨1, _⟩ => show win0_2.index t 1 * 1 + 1 * 0 = t.val; omega
  | ⟨2, _⟩ => show win0_2.index t 2 * 625 + 1 * g.val = g.val; omega
  | ⟨3, _⟩ => show win0_2.index t 3 * 128 + 1 * p.val = p.val; omega

theorem iblk_colours (q : Fin 3) (g : Fin 625) (p : Fin 128) :
    (iblk m c 3 t : S3x1x625x128.Idx → F .f32) (ix4 q 0 g p) = (m (c.tc.loc main_arg1) : S2000000x3.Idx → F .f32) (ix2 (number (block t) g p) q) := by
  obtain ⟨-, -, -, ⟨e0, e1, e2, e3⟩, -⟩ := index_facts t
  rw [← V_colours m c]
  show V m c main_v17 (((cfg0.win 3).blk t).view.emb (ix4 q 0 g p)) = V m c main_v17 (ix4 q (block t) g p)
  refine congrArg (V m c main_v17) ?_
  funext a
  refine Fin.ext ?_
  match a with
  | ⟨0, _⟩ => show win0_3.index t 0 * 3 + 1 * q.val = q.val; omega
  | ⟨1, _⟩ => show win0_3.index t 1 * 1 + 1 * 0 = t.val; omega
  | ⟨2, _⟩ => show win0_3.index t 2 * 625 + 1 * g.val = g.val; omega
  | ⟨3, _⟩ => show win0_3.index t 3 * 128 + 1 * p.val = p.val; omega

end Cert.KernelIdeal.Gen

end
-- ==== Proof.Threefry.lean ====
/-
  The Threefry-2x32 hash of twenty rounds, on single words: what the reference draws its random bits with.
-/
module

public import Idealize.ShloMosaic.PureOps

@[expose] public section

namespace Threefry

/-- One round: add, then turn the second word left by `r` (`l` is `32 - r`) and mix. -/
def turn (r l : BitVec 32) (x : BitVec 32 × BitVec 32) : BitVec 32 × BitVec 32 :=
  (x.1 + x.2, (x.1 + x.2) ^^^ ((x.2 <<< r) ||| (x.2 >>> l)))

/-- The key words `a`, `b` and the counter `c` added after four rounds. -/
def inject (a b c : BitVec 32) (x : BitVec 32 × BitVec 32) : BitVec 32 × BitVec 32 := (x.1 + a, x.2 + b + c)

/-- Four rounds of the first kind. -/
def mixA (x : BitVec 32 × BitVec 32) : BitVec 32 × BitVec 32 :=
  turn 6#32 26#32 (turn 26#32 6#32 (turn 15#32 17#32 (turn 13#32 19#32 x)))

/-- Four rounds of the second kind. -/
def mixB (x : BitVec 32 × BitVec 32) : BitVec 32 × BitVec 32 :=
  turn 24#32 8#32 (turn 16#32 16#32 (turn 29#32 3#32 (turn 17#32 15#32 x)))

/-- The third key word. -/
def key2 (k0 k1 : BitVec 32) : BitVec 32 := k0 ^^^ k1 ^^^ 466688986#32

/-- The hash of the two words `x` under the key `(k0, k1)`. -/
def hash (k0 k1 : BitVec 32) (x : BitVec 32 × BitVec 32) : BitVec 32 × BitVec 32 :=
  inject (key2 k0 k1) k0 5#32 (mixA (inject k1 (key2 k0 k1) 4#32 (mixB (inject k0 k1 3#32 (mixA (inject (key2 k0 k1) k0 2#32
    (mixB (inject k1 (key2 k0 k1) 1#32 (mixA (x.1 + k0, x.2 + k1))))))))))

end Threefry

end
-- ==== Proof.KernelHash.lean ====
/-
  The kernel's random words: its hash on single words, as the body spells it, is the reference's hash.
-/
module

public import proofs.«01_k».proof.Proof.Gen.KernelIdeal.Frame
public import proofs.«01_k».proof.Proof.Threefry

@[expose] public section

namespace Threefry

open Idealize.ShloMosaic

variable {α : Type}

/-- One round as the kernel spells it, handing its two words on to `f`. -/
def spin (r l : BitVec 32) (f : BitVec 32 → BitVec 32 → α) (a b : BitVec 32) : α :=
  f (IntOp.addi a b) (IntOp.xori (IntOp.ori (IntOp.shli .vector b r) (IntOp.shrui .vector b l)) (IntOp.addi a b))

/-- Two words added after four rounds. -/
def add (c d : BitVec 32) (f : BitVec 32 → BitVec 32 → α) (a b : BitVec 32) : α := f (IntOp.addi a c) (IntOp.addi b d)

/-- The first round, where the first word is zero. -/
def start (f : BitVec 32 → BitVec 32 → α) (c : BitVec 32) : α :=
  f c (IntOp.xori (IntOp.ori (IntOp.shli .vector c 13#32) (IntOp.shrui .vector c 19#32)) c)

/-- Three of the four rounds of the first kind. -/
def spinA (f : BitVec 32 → BitVec 32 → α) : BitVec 32 → BitVec 32 → α :=
  spin 15#32 17#32 (spin 26#32 6#32 (spin 6#32 26#32 f))

/-- Four rounds of the second kind. -/
def spinB (f : BitVec 32 → BitVec 32 → α) : BitVec 32 → BitVec 32 → α :=
  spin 17#32 15#32 (spin 29#32 3#32 (spin 16#32 16#32 (spin 24#32 8#32 f)))

/-- The kernel's random word at the counter `c`: its hash under the key `(0, 42)`, the two words mixed. -/
def kernelWord (c : BitVec 32) : BitVec 32 :=
  start (spinA (add 42#32 466689009#32 (spinB (add 466689008#32 2#32 (spin 13#32 19#32 (spinA (add 0#32 45#32 (spinB
    (add 42#32 466689012#32 (spin 13#32 19#32 (spinA (add 466689008#32 5#32 IntOp.xori)))))))))))) (IntOp.addi c 42#32)

/-- The signed word the kernel ranks choice `k` by: the upper bits of its random word, then `7 - k`. -/
def rankWord (v p k : BitVec 32) : BitVec 32 :=
  IntOp.subi (IntOp.ori (IntOp.shrui .vector (kernelWord (IntOp.addi p (IntOp.addi v k))) 6#32) 7#32) k

/-- The greater of a word and the ranking word of choice `k`. -/
def rise (v p k m : BitVec 32) : BitVec 32 := IntOp.maxsi m (rankWord v p k)

/-- The greatest of the eight ranking words. -/
def bestWord (v p : BitVec 32) : BitVec 32 :=
  rise v p 7#32 (rise v p 6#32 (rise v p 5#32 (rise v p 4#32 (rise v p 3#32 (rise v p 2#32 (rise v p 1#32 (rankWord v p 0#32)))))))

/-- Whether bit `b` of the greatest word's last three is clear. -/
def clear (b v p : BitVec 32) : BitVec 1 := IntOp.cmpi .eq (IntOp.andi (IntOp.andi (bestWord v p) 7#32) b) 0#32

end Threefry
-- ==== Proof.KernelBody.lean ====
/-
  What the kernel's body stores: at each place of a block the chosen transform of the point there, and the mean of its
  colour and the chosen one, the choice being read off the last three bits of the greatest ranking word.
-/
module

public import proofs.«01_k».proof.Proof.KernelHash

@[expose] public section

set_option maxRecDepth 16384

noncomputable section

namespace Cert.KernelIdeal.Gen

open Idealize.ShloMosaic Idealize.ShloMosaic.TcCoe Idealize.ShloMosaic.Tactic Threefry

variable {F : FTy → Type} [FloatOps F]

/-- The entry that the three bits name, a clear bit being 1: among four pairs, then among two, then one. -/
def choose {α : Type} (b0 b1 b2 : BitVec 1) (t : Fin 8 → α) : α :=
  Scalar.select b2 (Scalar.select b1 (Scalar.select b0 (t 7) (t 6)) (Scalar.select b0 (t 5) (t 4)))
    (Scalar.select b1 (Scalar.select b0 (t 3) (t 2)) (Scalar.select b0 (t 1) (t 0)))

/-- The entry at the place that the greatest ranking word names. -/
def chosen {α : Type} (v p : BitVec 32) (t : Fin 8 → α) : α := choose (clear 1#32 v p) (clear 2#32 v p) (clear 4#32 v p) t

theorem cell_inside (a : Fin 15) (k : Fin 8) : ∀ b, (![a.val, k.val] : Fin 2 → Nat) b + S1x1.size b ≤ S15x8.size b := by
  intro b
  have := a.isLt
  have := k.isLt
  match b with
  | ⟨0, _⟩ => show a.val + 1 ≤ 15; omega
  | ⟨1, _⟩ => show k.val + 1 ≤ 8; omega

theorem plane_inside (q : Fin 3) : ∀ b, (![q.val, 0, 0, 0] : Fin 4 → Nat) b + S1x1x625x128.size b ≤ S3x1x625x128.size b := by
  intro b
  have := q.isLt
  match b with
  | ⟨0, _⟩ => show q.val + 1 ≤ 3; omega
  | ⟨1, _⟩ => exact Nat.le_refl _
  | ⟨2, _⟩ => exact Nat.le_refl _
  | ⟨3, _⟩ => exact Nat.le_refl _

variable (c : Dev nD) (i : grid0.Coords) (arg1 : Memref sig .tc .smem S15x8 .f32) (harg1 : arg1.IsWhole)
  (arg2 : Memref sig .tc .vmem S625x128 .i32) (harg2 : arg2.IsWhole)
  (arg3 : Memref sig .tc .vmem S3x1x625x128 .f32) (harg3 : arg3.IsWhole)
  (arg4 : Memref sig .tc .vmem S3x1x625x128 .f32) (harg4 : arg4.IsWhole)
  (arg5 : Memref sig .tc .vmem S3x1x625x128 .f32) (harg5 : arg5.IsWhole)
  (arg6 : Memref sig .tc .vmem S3x1x625x128 .f32) (harg6 : arg6.IsWhole)
  (x0 : Vec F S15x8 .f32) (x1 : Vec F S625x128 .i32) (x2 : Vec F S3x1x625x128 .f32) (x3 : Vec F S3x1x625x128 .f32)

/-- The table's word in row `a`, column `k`, as the body loads it. -/
def cell (a : Fin 15) (k : Fin 8) : F .f32 :=
  arg1.view.readAt (Elt F) (Rect.unit (s := S15x8) ![a.val, k.val] S1x1.size (cell_inside a k)).toLoadRect (harg1.unread x0)
    (Shape.Idx.first (numel1_S1x1.symm ▸ Nat.one_pos))

/-- Plane `q` of a block, as the body loads it. -/
def plane (q : Fin 3) (arg : Memref sig .tc .vmem S3x1x625x128 .f32) (harg : arg.IsWhole) (x : Vec F S3x1x625x128 .f32) :
    FVec F S625x128 .f32 :=
  shapeCast S625x128 (arg.view.readAt (Elt F) (Rect.unit (s := S3x1x625x128) ![q.val, 0, 0, 0] S1x1x625x128.size (plane_inside q)).toLoadRect
    (harg.unread x)) shapeCasts_S1x1x625x128_S625x128

/-- The block's first counter. -/
def base : BitVec 32 := Scalar.muli (BitVec.ofNat 32 (i 0).val) 640000#32

/-- The place's counter within the block, as the body loads it. -/
def offset (j : S625x128.Idx) : BitVec 32 :=
  k0_pay2 (F := F) (arg2.view.readAt (Elt F) (Rect.unit (s := S625x128) ![0, 0] S625x128.size inb_S625x128_S625x128_0_0).toLoadRect (harg2.unread x1)) j

/-- The activation as the body computes it. -/
def active (t : F .f32) : F .f32 :=
  FloatOps.mulf (Scalar.ofBits .f32 0x3F867D5F#32) (Scalar.select (FloatOps.cmpf .ogt t (Scalar.ofBits .f32 0x00000000#32)) t
    (FloatOps.mulf (Scalar.ofBits .f32 0x3FD62D7D#32) (FloatOps.subf (FloatOps.exp t) (Scalar.ofBits .f32 0x3F800000#32))))

/-- Component `q` of the transformed point at a place, before the activation. -/
def moved (q : Fin 3) (j : S625x128.Idx) : F .f32 :=
  FloatOps.addf
    (FloatOps.addf
      (FloatOps.addf
        (FloatOps.mulf (plane 0 arg3 harg3 x2 j) (chosen (base i) (offset arg2 harg2 x1 j) fun k => cell arg1 harg1 x0 ⟨q.val, by omega⟩ k))
        (FloatOps.mulf (plane 1 arg3 harg3 x2 j) (chosen (base i) (offset arg2 harg2 x1 j) fun k => cell arg1 harg1 x0 ⟨3 + q.val, by omega⟩ k)))
      (FloatOps.mulf (plane 2 arg3 harg3 x2 j) (chosen (base i) (offset arg2 harg2 x1 j) fun k => cell arg1 harg1 x0 ⟨6 + q.val, by omega⟩ k)))
    (chosen (base i) (offset arg2 harg2 x1 j) fun k => cell arg1 harg1 x0 ⟨9 + q.val, by omega⟩ k)

/-- Component `q` of the new colour at a place. -/
def mixed (q : Fin 3) (j : S625x128.Idx) : F .f32 :=
  FloatOps.mulf
    (FloatOps.addf (plane q arg4 harg4 x3 j) (chosen (base i) (offset arg2 harg2 x1 j) fun k => cell arg1 harg1 x0 ⟨12 + q.val, by omega⟩ k))
    (Scalar.ofBits .f32 0x3F000000#32)

/-- A plane's store. -/
def store (q : Fin 3) (f : S625x128.Idx → F .f32) : View.Piece (Elt F) S3x1x625x128 .f32 :=
  ⟨Rect.unit (s := S3x1x625x128) ![q.val, 0, 0, 0] S1x1x625x128.size (plane_inside q), shapeCast S1x1x625x128 f shapeCasts_S625x128_S1x1x625x128⟩

theorem stores_points : (kernelRun0_A c i arg1 harg1 arg2 harg2 arg3 harg3 arg4 harg4 arg5 harg5 arg6 harg6 x0 x1 x2 x3).1
    = [store 2 fun j => active (moved i arg1 harg1 arg2 harg2 arg3 harg3 x0 x1 x2 2 j),
       store 1 fun j => active (moved i arg1 harg1 arg2 harg2 arg3 harg3 x0 x1 x2 1 j),
       store 0 fun j => active (moved i arg1 harg1 arg2 harg2 arg3 harg3 x0 x1 x2 0 j)] := by
  sl_kernel_rfl

theorem stores_colours : (kernelRun0_A c i arg1 harg1 arg2 harg2 arg3 harg3 arg4 harg4 arg5 harg5 arg6 harg6 x0 x1 x2 x3).2.1
    = [store 2 fun j => mixed i arg1 harg1 arg2 harg2 arg4 harg4 x0 x1 x3 2 j,
       store 1 fun j => mixed i arg1 harg1 arg2 harg2 arg4 harg4 x0 x1 x3 1 j,
       store 0 fun j => mixed i arg1 harg1 arg2 harg2 arg4 harg4 x0 x1 x3 0 j] := by
  sl_kernel_rfl

end Cert.KernelIdeal.Gen

end
-- ==== Proof.KernelBlock.lean ====
/-
  What the body leaves in a block, at a place, from the blocks it is given.
-/
module

public import proofs.«01_k».proof.Proof.KernelBody
public import Idealize.ShloMosaic.Lib.Pipeline.Value
public import Idealize.ShloMosaic.Lib.Writes
public import Idealize.ShloMosaic.Lib.ValueIdxCore
public import Idealize.ShloMosaic.Lib.ValueIdxCoords

@[expose] public section

set_option maxRecDepth 16384

noncomputable section

namespace Cert.KernelIdeal.Gen

open Idealize.ShloMosaic Idealize.ShloMosaic.TcCoe Idealize.ShloMosaic.ValueIdx Threefry

variable {F : FTy → Type} [FloatOps F]

/-- Three stores, one a plane, leave every plane at its own. -/
theorem read_stores {κ : Kind} {sp : Space} (v : View sig κ sp S3x1x625x128 .f32) (b : v.ty.Contents (Elt F)) (f : Fin 3 → S625x128.Idx → F .f32)
    (q : Fin 3) (g : Fin 625) (p : Fin 128) :
    v.read (Elt F) (v.writes (Elt F) b [store 2 (f 2), store 1 (f 1), store 0 (f 0)]) (ix4 q 0 g p) = f q (ix2 g p) := by
  have hit : ∀ L, v.read (Elt F) (v.writes (Elt F) b (store q (f q) :: L)) (ix4 q 0 g p) = f q (ix2 g p) := fun L => by
    refine (View.read_writes_cons_hit_of_coords v b _ _ L (ix4 0 0 g p) (ix4 q 0 g p) fun a => ?_).trans ?_
    · match a with
      | ⟨0, _⟩ => show q.val = q.val + 1 * 0; omega
      | ⟨1, _⟩ => rfl
      | ⟨2, _⟩ => show g.val = 0 + 1 * g.val; omega
      | ⟨3, _⟩ => show p.val = 0 + 1 * p.val; omega
    · exact shapeCast_apply (f q) shapeCasts_S625x128_S1x1x625x128 (ix4 0 0 g p) (ix2 g p) (by
        rw [Shape.rowMajor_val_four, Shape.rowMajor_val_two]
        show g.val * 128 + p.val = ((0 * 1 + 0) * 625 + g.val) * 128 + p.val
        omega)
  have miss : ∀ (r : Fin 3) (h : S625x128.Idx → F .f32) L, q ≠ r → v.read (Elt F) (v.writes (Elt F) b (store r h :: L)) (ix4 q 0 g p)
      = v.read (Elt F) (v.writes (Elt F) b L) (ix4 q 0 g p) := fun r h L hr => by
    refine View.read_writes_cons_miss_of_axis v b (store r h) L (ix4 q 0 g p) 0 r.val 1 rfl rfl rfl ?_
    show q.val < r.val ∨ r.val + 1 ≤ q.val
    have := Fin.val_ne_of_ne hr
    omega
  by_cases h2 : q = 2
  · subst h2; exact hit _
  rw [miss 2 _ _ h2]
  by_cases h1 : q = 1
  · subst h1; exact hit _
  rw [miss 1 _ _ h1]
  obtain rfl : q = 0 := by omega
  exact hit _

variable (c : Dev nD) (i : grid0.Coords) (arg1 : Memref sig .tc .smem S15x8 .f32) (harg1 : arg1.IsWhole)
  (arg2 : Memref sig .tc .vmem S625x128 .i32) (harg2 : arg2.IsWhole)
  (arg3 : Memref sig .tc .vmem S3x1x625x128 .f32) (harg3 : arg3.IsWhole)
  (arg4 : Memref sig .tc .vmem S3x1x625x128 .f32) (harg4 : arg4.IsWhole)
  (arg5 : Memref sig .tc .vmem S3x1x625x128 .f32) (harg5 : arg5.IsWhole)
  (arg6 : Memref sig .tc .vmem S3x1x625x128 .f32) (harg6 : arg6.IsWhole)
  (x0 : Vec F S15x8 .f32) (x1 : Vec F S625x128 .i32) (x2 : Vec F S3x1x625x128 .f32) (x3 : Vec F S3x1x625x128 .f32)

theorem cell_eq (a : Fin 15) (k : Fin 8) : cell arg1 harg1 x0 a k = x0 (ix2 a k) := by
  unfold cell
  rw [View.readAt_apply]
  refine (congrFun (harg1.read_unread x0) _).trans (congrArg x0 ?_)
  generalize hz : Shape.Idx.first (numel1_S1x1.symm ▸ Nat.one_pos) = z
  have h0 : (z 0).val < 1 := (z 0).isLt
  have h1 : (z 1).val < 1 := (z 1).isLt
  funext b
  refine Fin.ext ?_
  match b with
  | ⟨0, _⟩ => show a.val + 1 * (z 0).val = a.val; omega
  | ⟨1, _⟩ => show k.val + 1 * (z 1).val = k.val; omega

theorem plane_eq (q : Fin 3) (g : Fin 625) (p : Fin 128) : plane q arg3 harg3 x2 (ix2 g p) = x2 (ix4 q 0 g p) := by
  unfold plane
  refine (shapeCast_apply _ shapeCasts_S1x1x625x128_S625x128 (ix2 g p) (ix4 0 0 g p) (by
    rw [Shape.rowMajor_val_four, Shape.rowMajor_val_two]
    show ((0 * 1 + 0) * 625 + g.val) * 128 + p.val = g.val * 128 + p.val
    omega)).trans ?_
  rw [View.readAt_apply]
  refine (congrFun (harg3.read_unread x2) _).trans (congrArg x2 ?_)
  funext b
  refine Fin.ext ?_
  match b with
  | ⟨0, _⟩ => show q.val + 1 * 0 = q.val; omega
  | ⟨1, _⟩ => rfl
  | ⟨2, _⟩ => show 0 + 1 * g.val = g.val; omega
  | ⟨3, _⟩ => show 0 + 1 * p.val = p.val; omega

theorem offset_eq (g : Fin 625) (p : Fin 128) : offset arg2 harg2 x1 (ix2 g p) = x1 (ix2 g p) := by
  unfold offset k0_pay2
  refine (congrFun (shapeCast_self _ _) (ix2 g p)).trans ?_
  rw [View.readAt_apply]
  refine (congrFun (harg2.read_unread x1) _).trans (congrArg x1 ?_)
  funext b
  refine Fin.ext ?_
  match b with
  | ⟨0, _⟩ => show 0 + 1 * g.val = g.val; omega
  | ⟨1, _⟩ => show 0 + 1 * p.val = p.val; omega

/-- The moved point at a place, from the table's column `k`. -/
def movedBy (t : Vec F S15x8 .f32) (x : Vec F S3x1x625x128 .f32) (q : Fin 3) (g : Fin 625) (p : Fin 128) (k : Fin 8) : F .f32 :=
  FloatOps.addf
    (FloatOps.addf
      (FloatOps.addf (FloatOps.mulf (x (ix4 0 0 g p)) (t (ix2 ⟨q.val, by omega⟩ k)))
        (FloatOps.mulf (x (ix4 1 0 g p)) (t (ix2 ⟨3 + q.val, by omega⟩ k))))
      (FloatOps.mulf (x (ix4 2 0 g p)) (t (ix2 ⟨6 + q.val, by omega⟩ k))))
    (t (ix2 ⟨9 + q.val, by omega⟩ k))

/-- The new colour at a place, from the table's column `k`. -/
def mixedBy (t : Vec F S15x8 .f32) (x : Vec F S3x1x625x128 .f32) (q : Fin 3) (g : Fin 625) (p : Fin 128) (k : Fin 8) : F .f32 :=
  FloatOps.mulf (FloatOps.addf (x (ix4 q 0 g p)) (t (ix2 ⟨12 + q.val, by omega⟩ k))) (Scalar.ofBits .f32 0x3F000000#32)

variable {c i arg1 harg1 arg2 harg2 arg3 harg3 arg4 harg4 arg5 harg5 arg6 harg6 x0 x1 x2 x3}

theorem points_apply (q : Fin 3) (g : Fin 625) (p : Fin 128) {k : Fin 8}
    (hk : ∀ t : Fin 8 → F .f32, chosen (base i) (x1 (ix2 g p)) t = t k) :
    out0_A_4 c i arg1 harg1 arg2 harg2 arg3 harg3 arg4 harg4 arg5 harg5 arg6 harg6 x0 x1 x2 x3 (ix4 q 0 g p) = active (movedBy x0 x2 q g p k) := by
  unfold out0_A_4
  rw [stores_points]
  refine (read_stores VO0_4 _ (fun q j => active (moved i arg1 harg1 arg2 harg2 arg3 harg3 x0 x1 x2 q j)) q g p).trans (congrArg active ?_)
  unfold moved movedBy
  simp only [offset_eq, hk, cell_eq, plane_eq]

theorem colours_apply (q : Fin 3) (g : Fin 625) (p : Fin 128) {k : Fin 8}
    (hk : ∀ t : Fin 8 → F .f32, chosen (base i) (x1 (ix2 g p)) t = t k) :
    out0_A_5 c i arg1 harg1 arg2 harg2 arg3 harg3 arg4 harg4 arg5 harg5 arg6 harg6 x0 x1 x2 x3 (ix4 q 0 g p) = mixedBy x0 x3 q g p k := by
  unfold out0_A_5
  rw [stores_colours]
  refine (read_stores VO0_5 _ (fun q j => mixed i arg1 harg1 arg2 harg2 arg4 harg4 x0 x1 x3 q j) q g p).trans ?_
  unfold mixed mixedBy
  simp only [offset_eq, hk, cell_eq, plane_eq]

end Cert.KernelIdeal.Gen

end
-- ==== Proof.Ssa.lean ====
/-
  The run of a straight line of host operations that writes every buffer once. Such a line ends at contents
  that satisfy each of its operations as an equation (`Holds`): the buffer an operation writes holds the
  operation's function of the buffers it reads, all taken at the END of the run. So what a buffer holds is read
  off a program's text one operation at a time, function body by function body, with no fold over the line.

  `Line n p n'` says that `p` is such a line, that every reference it writes has an index at least `n`, below
  `n'`, and above the indices it reads, in increasing order; it is what a printed program is, its buffers being
  numbered in the order of its text. `run_line` is the run.
-/
module

public import Idealize.ShloMosaic.Lib.StableHlo.Run
public import Idealize.ShloMosaic.Lib.StableHlo.RunHlo

@[expose] public section

noncomputable section

namespace Ssa

open Idealize.ShloMosaic Idealize.ShloMosaic.StableHlo Idealize.SL.Sem

variable {nD : Nat} {τ : Topo} {sig : RefSig} {Val : EltTy → Type} {Λ : Labels}

/-- What the contents `W` answer to a step of a host operation. -/
def reply (W : Valuation τ sig Val) : {β : Type} → TpuEff nD τ sig Val Λ .tc β → β → Prop
  | _, .hloBegin _ op, _ => op.result W = W
  | _, .hloEnd _ B, v => v = fun b : B => W b.1
  | _, _, _ => False

/-- Every operation of the straight line `p` leaves the contents `W` as they are: `W` satisfies it as an equation. -/
def Holds (W : Valuation τ sig Val) {α : Type} (p : Prog (TpuEff nD τ sig Val Λ .tc) α) : Prop :=
  Prog.rec (motive := fun _ => Prop) (fun _ => True) (fun e _ ih => ∃ b, reply W e b ∧ ih b) p

theorem holds_step (W : Valuation τ sig Val) (op : HloOp τ sig Val) (q : PUnit → Prog (TpuEff nD τ sig Val Λ .tc) PUnit) :
    Holds W ((hlo rfl op fun _ => .ret (⟨⟩ : PUnit)) >>= q) ↔ op.result W = W ∧ Holds W (q ⟨⟩) :=
  ⟨fun ⟨_, h, _, _, h'⟩ => ⟨h, h'⟩, fun h => ⟨⟨⟩, h.1, _, rfl, h.2⟩⟩

theorem holds_last (W : Valuation τ sig Val) (op : HloOp τ sig Val) :
    Holds W (hlo rfl op fun _ => .ret (⟨⟩ : PUnit) : Prog (TpuEff nD τ sig Val Λ .tc) PUnit) ↔ op.result W = W :=
  ⟨fun ⟨_, h, _⟩ => h, fun h => ⟨⟨⟩, h, _, rfl, trivial⟩⟩

theorem holds_ret (W : Valuation τ sig Val) :
    Holds W (pure ⟨⟩ : Prog (TpuEff nD τ sig Val Λ .tc) PUnit) ↔ True := Iff.rfl

theorem holds_seq (W : Valuation τ sig Val) (ops : List (HloOp τ sig Val)) :
    Holds W (seq ops : Prog (TpuEff nD τ sig Val Λ .tc) PUnit) ↔ ∀ op ∈ ops, op.result W = W := by
  induction ops with
  | nil => exact iff_of_true trivial (fun _ h => nomatch h)
  | cons op ops ih => rw [seq, holds_step, ih, List.forall_mem_cons]

/-- One line, then another. -/
theorem holds_bind (W : Valuation τ sig Val) (p : Prog (TpuEff nD τ sig Val Λ .tc) PUnit)
    (q : PUnit → Prog (TpuEff nD τ sig Val Λ .tc) PUnit) : Holds W (p >>= q) ↔ Holds W p ∧ Holds W (q ⟨⟩) := by
  revert q
  refine Prog.rec (motive := fun p => ∀ q : PUnit → Prog (TpuEff nD τ sig Val Λ .tc) PUnit, Holds W (p >>= q) ↔
    Holds W p ∧ Holds W (q ⟨⟩)) (fun a q => ⟨fun h => ⟨trivial, h⟩, fun h => h.2⟩) (fun e k ih q => ?_) p
  exact ⟨fun ⟨b, hb, h⟩ => ⟨⟨b, hb, ((ih b q).1 h).1⟩, ((ih b q).1 h).2⟩, fun ⟨⟨b, hb, h⟩, h'⟩ => ⟨b, hb, (ih b q).2 ⟨h, h'⟩⟩⟩

/-! ## One operation as an equation -/

/-- What the typed reference `b` holds. -/
abbrev rd (W : Valuation τ sig Val) {T : BufTy} (b : TRef sig T) : T.Contents Val := b.ofBuf (W (Proc.devRef .tc b.ref))

theorem result_eq_iff {op : HloOp τ sig Val} {y : Ref sig .tc} (hw : op.writes = {Proc.devRef .tc y}) (W : Valuation τ sig Val) :
    op.result W = W ↔ op.result W (Proc.devRef .tc y) = W (Proc.devRef .tc y) := by
  refine ⟨fun h => congrFun h _, fun h => funext fun b => ?_⟩
  by_cases hb : b ∈ op.writes
  · rw [hw, Finset.mem_singleton] at hb
    subst hb
    exact h
  · exact op.result_of_not_mem W hb

section Equations

variable {Ta Tb Tc Te Ty : BufTy} (W : Valuation τ sig Val)

theorem toBuf_eq_iff (y : TRef sig Ty) (v : Ty.Contents Val) (w : y.ref.ty.Contents Val) :
    y.toBuf v = w ↔ y.ofBuf w = v := by
  obtain ⟨r, rfl, _, _⟩ := y
  exact eq_comm

theorem nullary_holds (y : TRef sig Ty) (v : Ty.Contents Val) :
    (TRef.nullary (τ := τ) y v).result W = W ↔ rd W y = v := by
  rw [result_eq_iff rfl, nullary_result, toBuf_eq_iff]

theorem unary_holds (x : TRef sig Ta) (y : TRef sig Ty) (f : Ta.Contents Val → Ty.Contents Val) :
    (TRef.unary (τ := τ) x y f).result W = W ↔ rd W y = f (rd W x) := by
  rw [result_eq_iff rfl, unary_result, toBuf_eq_iff]

theorem binary_holds (a : TRef sig Ta) (b : TRef sig Tb) (y : TRef sig Ty)
    (f : Ta.Contents Val → Tb.Contents Val → Ty.Contents Val) :
    (TRef.binary (τ := τ) a b y f).result W = W ↔ rd W y = f (rd W a) (rd W b) := by
  rw [result_eq_iff rfl, binary_result, toBuf_eq_iff]

theorem ternary_holds (c : TRef sig Tc) (a : TRef sig Ta) (b : TRef sig Tb) (y : TRef sig Ty)
    (f : Tc.Contents Val → Ta.Contents Val → Tb.Contents Val → Ty.Contents Val) :
    (TRef.ternary (τ := τ) c a b y f).result W = W ↔ rd W y = f (rd W c) (rd W a) (rd W b) := by
  rw [result_eq_iff rfl, ternary_result, toBuf_eq_iff]

theorem quaternary_holds (a : TRef sig Ta) (b : TRef sig Tb) (c : TRef sig Tc) (e : TRef sig Te) (y : TRef sig Ty)
    (f : Ta.Contents Val → Tb.Contents Val → Tc.Contents Val → Te.Contents Val → Ty.Contents Val) :
    (TRef.quaternary (τ := τ) a b c e y f).result W = W ↔ rd W y = f (rd W a) (rd W b) (rd W c) (rd W e) := by
  rw [result_eq_iff rfl, quaternary_result, toBuf_eq_iff]

theorem reshape_iff {s t : Shape} {e : EltTy} {X Y : BufTy} (hX : X = ⟨s, e⟩) (hY : Y = ⟨t, e⟩) (u : X.Contents Val)
    (v : Y.Contents Val) (he : X.elt = Y.elt) (hn' : X.shape.ShapeCasts Y.shape) (hn : s.ShapeCasts t) :
    (v = fun i => he ▸ shapeCast Y.shape u hn' i)
      ↔ cast (congrArg (fun U : BufTy => U.Contents Val) hY) v = shapeCast t (cast (congrArg (fun U : BufTy => U.Contents Val) hX) u) hn := by
  subst hX hY
  rfl

theorem reshape_holds {s t : Shape} {e : EltTy} (x : TRef sig ⟨s, e⟩) (y : TRef sig ⟨t, e⟩) (hn : s.ShapeCasts t) :
    (TRef.reshape (τ := τ) (Val := Val) x y rfl hn).result W = W ↔ rd W y = shapeCast t (rd W x) hn := by
  rw [result_eq_iff rfl, reshape_result, eq_comm]
  exact reshape_iff x.ty_eq y.ty_eq _ _ _ _ hn

theorem nullary_holds' (y : Ref sig .tc) (v : y.ty.Contents Val) (hy) :
    (nullary (τ := τ) y v hy).result W = W ↔ W (Proc.devRef .tc y) = v := by
  rw [result_eq_iff rfl, nullary_result, eq_comm]

theorem unary_holds' (x y : Ref sig .tc) (f : x.ty.Contents Val → y.ty.Contents Val) (hx hy) :
    (unary (τ := τ) x y f hx hy).result W = W ↔ W (Proc.devRef .tc y) = f (W (Proc.devRef .tc x)) := by
  rw [result_eq_iff rfl, unary_result, eq_comm]

theorem binary_holds' (a b y : Ref sig .tc) (f : a.ty.Contents Val → b.ty.Contents Val → y.ty.Contents Val) (ha hb hy) :
    (binary (τ := τ) a b y f ha hb hy).result W = W ↔ W (Proc.devRef .tc y) = f (W (Proc.devRef .tc a)) (W (Proc.devRef .tc b)) := by
  rw [result_eq_iff rfl, binary_result, eq_comm]

end Equations

/-! ## The line -/

/-- The operation writes `y`, in full and nothing else, reading references of smaller index. -/
structure Step (op : HloOp τ sig Val) (y : Ref sig .tc) : Prop where
  writes : op.writes = {Proc.devRef .tc y}
  sub : op.bufs ⊆ tcRefs τ sig
  fresh : op.fresh = ∅
  reads : ∀ V V' : Valuation τ sig Val, (∀ r : Ref sig .tc, r.idx.val < y.idx.val → V (Proc.devRef .tc r) = V' (Proc.devRef .tc r)) →
    op.result V (Proc.devRef .tc y) = op.result V' (Proc.devRef .tc y)

/-- The operations write references of increasing index, from `n` on and below `n'`. -/
inductive Steps : Nat → List (HloOp τ sig Val) → Nat → Prop
  | nil {n : Nat} : Steps n [] n
  | cons {n n' : Nat} {op : HloOp τ sig Val} {ops : List (HloOp τ sig Val)} {y : Ref sig .tc} (h : Step op y) (hn : n ≤ y.idx.val)
      (ht : Steps (y.idx.val + 1) ops n') : Steps n (op :: ops) n'

theorem Steps.append {n n' n'' : Nat} {l l' : List (HloOp τ sig Val)} (h : Steps n l n') (h' : Steps n' l' n'') : Steps n (l ++ l') n'' := by
  induction h with
  | nil => exact h'
  | cons hs hn _ ih => exact .cons hs hn (ih h')

theorem Steps.sub {n n' : Nat} {l : List (HloOp τ sig Val)} (h : Steps n l n') : ∀ op ∈ l, op.bufs ⊆ tcRefs τ sig ∧ op.fresh = ∅ := by
  induction h with
  | nil => exact fun _ h => nomatch h
  | cons hs _ _ ih => exact List.forall_mem_cons.mpr ⟨⟨hs.sub, hs.fresh⟩, ih⟩

/-- Contents at the end of a line: references below its first index keep theirs, and every operation is satisfied. -/
theorem Steps.after {n n' : Nat} {l : List (HloOp τ sig Val)} (h : Steps n l n') : ∀ V : Valuation τ sig Val,
    (∀ r : Ref sig .tc, r.idx.val < n → StableHlo.after l V (Proc.devRef .tc r) = V (Proc.devRef .tc r))
    ∧ ∀ op ∈ l, op.result (StableHlo.after l V) = StableHlo.after l V := by
  induction h with
  | nil => exact fun V => ⟨fun _ _ => rfl, fun _ h => nomatch h⟩
  | @cons n n' op ops y hs hn _ ih =>
    intro V
    obtain ⟨hk, ho⟩ := ih (op.result V)
    have hlow : ∀ r : Ref sig .tc, r.idx.val < y.idx.val → StableHlo.after (op :: ops) V (Proc.devRef .tc r) = V (Proc.devRef .tc r) := fun r hr => by
      rw [after_cons, hk r (by omega), op.result_of_not_mem]
      rw [hs.writes, Finset.mem_singleton]
      exact devRef_ne_of_ne fun e => by subst e; exact absurd hr (lt_irrefl _)
    refine ⟨fun r hr => hlow r (by omega), List.forall_mem_cons.mpr ⟨?_, ho⟩⟩
    rw [result_eq_iff hs.writes]
    conv_rhs => rw [after_cons, hk y (by omega)]
    exact hs.reads _ _ hlow

/-- `p` is a line of operations that write references of increasing index, from `n` on and below `n'`. -/
def Line (n : Nat) (p : Prog (TpuEff nD τ sig Val Λ .tc) PUnit) (n' : Nat) : Prop := ∃ ops, p = seq ops ∧ Steps n ops n'

theorem Line.nil {n : Nat} : Line n (pure ⟨⟩ : Prog (TpuEff nD τ sig Val Λ .tc) PUnit) n := ⟨[], rfl, .nil⟩

theorem Line.call {n n' n'' : Nat} {p : Prog (TpuEff nD τ sig Val Λ .tc) PUnit} {q : PUnit → Prog (TpuEff nD τ sig Val Λ .tc) PUnit}
    (hp : Line n p n') (hq : Line n' (q ⟨⟩) n'') : Line n (p >>= q) n'' := by
  obtain ⟨l, rfl, hl⟩ := hp
  obtain ⟨l', hq', hl'⟩ := hq
  refine ⟨l ++ l', ?_, hl.append hl'⟩
  rw [seq_append, ← hq']

theorem Line.last {n : Nat} {op : HloOp τ sig Val} (y : Ref sig .tc) (h : Step op y) (hn : n ≤ y.idx.val) :
    Line n (hlo rfl op fun _ => .ret (⟨⟩ : PUnit) : Prog (TpuEff nD τ sig Val Λ .tc) PUnit) (y.idx.val + 1) :=
  ⟨[op], rfl, .cons h hn .nil⟩

section Builders

variable (x a b c e y : Ref sig .tc)

theorem Step.nullary (v : y.ty.Contents Val) (hy) : Step (StableHlo.nullary (τ := τ) y v hy) y :=
  ⟨rfl, nullary_bufs_sub _ _ _, rfl, fun V V' _ => by rw [nullary_result, nullary_result]⟩

theorem Step.unary (f : x.ty.Contents Val → y.ty.Contents Val) (hx hy) (h : x.idx.val < y.idx.val) :
    Step (StableHlo.unary (τ := τ) x y f hx hy) y :=
  ⟨rfl, unary_bufs_sub _ _ _ _ _, rfl, fun V V' hV => by rw [unary_result, unary_result, hV x h]⟩

theorem Step.binary (f : a.ty.Contents Val → b.ty.Contents Val → y.ty.Contents Val) (ha hb hy)
    (h : a.idx.val < y.idx.val) (h' : b.idx.val < y.idx.val) : Step (StableHlo.binary (τ := τ) a b y f ha hb hy) y :=
  ⟨rfl, binary_bufs_sub _ _ _ _ _ _ _, rfl, fun V V' hV => by rw [binary_result, binary_result, hV a h, hV b h']⟩

theorem Step.ternary (f : c.ty.Contents Val → a.ty.Contents Val → b.ty.Contents Val → y.ty.Contents Val) (hc ha hb hy)
    (h : c.idx.val < y.idx.val) (h' : a.idx.val < y.idx.val) (h'' : b.idx.val < y.idx.val) :
    Step (StableHlo.ternary (τ := τ) c a b y f hc ha hb hy) y :=
  ⟨rfl, ternary_bufs_sub _ _ _ _ _ _ _ _ _, rfl, fun V V' hV => by rw [ternary_result, ternary_result, hV c h, hV a h', hV b h'']⟩

theorem Step.quaternary (f : a.ty.Contents Val → b.ty.Contents Val → c.ty.Contents Val → e.ty.Contents Val → y.ty.Contents Val)
    (ha hb hc he hy) (h : a.idx.val < y.idx.val) (h' : b.idx.val < y.idx.val) (h'' : c.idx.val < y.idx.val)
    (h''' : e.idx.val < y.idx.val) : Step (StableHlo.quaternary (τ := τ) a b c e y f ha hb hc he hy) y :=
  ⟨rfl, quaternary_bufs_sub _ _ _ _ _ _ _ _ _ _ _, rfl, fun V V' hV => by
    rw [quaternary_result, quaternary_result, hV a h, hV b h', hV c h'', hV e h''']⟩

theorem Step.reshape (he hn hx hy) (h : x.idx.val < y.idx.val) : Step (StableHlo.reshape (τ := τ) (Val := Val) x y he hn hx hy) y :=
  ⟨rfl, reshape_bufs_sub _ _ _ _ _ _, rfl, fun V V' hV => by rw [reshape_result, reshape_result, hV x h]⟩

end Builders

/-- The run of a program that is a line on every device: it ends at contents that satisfy the whole program, and the
    buffers below the line's first index are as they were. -/
theorem run_line (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit) {n : Nat}
    (hmain : ∀ d, ∃ n', Line n (main d) n') (m : (ℓ : Loc nD τ sig) → Buf Val ℓ) (ρ : Dev nD → PrngReg) :
    θ_run defs (onTc (τ := τ) main) ⟨m, fun _ => 0, ρ⟩ fun r => ∀ d : Dev nD, ∃ W : Valuation τ sig Val,
      Holds W (main d)
      ∧ (∀ b : Ref sig .tc, r.2.mem ((d.tc : Thread nD τ).loc b) = W (Proc.devRef .tc b))
      ∧ ∀ b : Ref sig .tc, b.idx.val < n → W (Proc.devRef .tc b) = m ((d.tc : Thread nD τ).loc b) := by
  choose n' ops hops hsteps using hmain
  refine θ_run_mono (run_seq hR hC defs main ops hops (fun d => List.forall_iff_forall_mem.mpr fun op h => ((hsteps d).sub op h).1) m ρ
    fun d op h => ((hsteps d).sub op h).2) fun r h d => ⟨after (ops d) (launchContents m d), ?_, h d, fun b hb => ?_⟩
  · rw [hops d, holds_seq]
    exact ((hsteps d).after _).2
  · exact ((hsteps d).after _).1 b hb

end Ssa

end
-- ==== Proof.RefHash.lean ====
/-
  The reference's @threefry2x32 read at an index: the hash of the two counter words there.
-/
module

public import proofs.«01_k».proof.Proof.Ssa
public import proofs.«01_k».proof.Proof.Threefry
public import proofs.«01_k».proof.Proof.Gen.ReferenceIdeal

@[expose] public section

set_option maxRecDepth 16384

noncomputable section

namespace Cert.ReferenceIdeal

open Idealize.ShloMosaic Idealize.ShloMosaic.StableHlo Idealize.SL.Sem Ssa Threefry

/-- The one index of a scalar. -/
abbrev pt : S_.Idx := fun a => a.elim0

theorem broadcast_scalar {t : Shape} {α : Type} {h : S_.BroadcastsInDim t (![] : Fin 0 → Fin t.rank)} (v : S_.Idx → α) (j : t.Idx) :
    broadcastInDim (s := S_) t (![] : Fin 0 → Fin t.rank) h v j = v pt := congrArg v (funext fun a => a.elim0)

variable {F : FTy → Type} [FloatOps F]

abbrev Words := TRef sig ⟨S2000000x8, .i32⟩
abbrev Word := TRef sig ⟨S_, .i32⟩

/-- A round of the text: its nine operations as equations, and what follows. -/
theorem turn_holds {W : Valuation τ sig (Elt F)} {x y s a b d e f z : Words} {c c' : Word} {r l : BitVec 32} {h₁ h₂} {R : Prop}
    (hr : r.toNat < 32) (hl : l.toNat < 32)
    (H : rd W s = addi (rd W x) (rd W y) ∧ rd W c = constantI S_ 32 r
      ∧ rd W a = broadcastInDim S2000000x8 (![] : Fin 0 → Fin S2000000x8.rank) h₁ (rd W c)
      ∧ rd W b = Host.shli (rd W y) (rd W a) ∧ rd W c' = constantI S_ 32 l
      ∧ rd W d = broadcastInDim S2000000x8 (![] : Fin 0 → Fin S2000000x8.rank) h₂ (rd W c')
      ∧ rd W e = Host.shrui (rd W y) (rd W d) ∧ rd W f = ori (rd W b) (rd W e) ∧ rd W z = xori (rd W s) (rd W f) ∧ R) :
    (∀ j, (rd W s j, rd W z j) = turn r l (rd W x j, rd W y j)) ∧ R := by
  obtain ⟨h0, h1, h2, h3, h4, h5, h6, h7, h8, H⟩ := H
  refine ⟨fun j => ?_, H⟩
  have ha : rd W a j = r := by rw [h2, h1]; rfl
  have hd : rd W d j = l := by rw [h5, h4]; rfl
  rw [h8, h7, h6, h3, h0]
  simp only [addi, xori, ori, Host.shli, Host.shrui, ha, hd, IntOp.addi, IntOp.xori, IntOp.ori, IntOp.shli, IntOp.shrui, hr, hl,
    if_true, turn]

/-- A key injection of the text, and what follows. -/
theorem inject_holds {W : Valuation τ sig (Elt F)} {x y s a b d e z : Words} {k k' c : Word} {n : BitVec 32} {h₁ h₂ h₃} {R : Prop}
    (H : rd W a = broadcastInDim S2000000x8 (![] : Fin 0 → Fin S2000000x8.rank) h₁ (rd W k) ∧ rd W s = addi (rd W x) (rd W a)
      ∧ rd W b = broadcastInDim S2000000x8 (![] : Fin 0 → Fin S2000000x8.rank) h₂ (rd W k') ∧ rd W d = addi (rd W y) (rd W b)
      ∧ rd W c = constantI S_ 32 n ∧ rd W e = broadcastInDim S2000000x8 (![] : Fin 0 → Fin S2000000x8.rank) h₃ (rd W c)
      ∧ rd W z = addi (rd W d) (rd W e) ∧ R) :
    (∀ j, (rd W s j, rd W z j) = inject (rd W k pt) (rd W k' pt) n (rd W x j, rd W y j)) ∧ R := by
  obtain ⟨h0, h1, h2, h3, h4, h5, h6, H⟩ := H
  refine ⟨fun j => ?_, H⟩
  have ha : rd W a j = rd W k pt := by rw [h0]; exact broadcast_scalar _ j
  have hb : rd W b j = rd W k' pt := by rw [h2]; exact broadcast_scalar _ j
  have he : rd W e j = n := by rw [h5, h4]; rfl
  rw [h6, h3, h1]
  simp only [addi, ha, hb, he, IntOp.addi, inject]

set_option maxHeartbeats 4000000 in
/-- @threefry2x32 at index `j`: the hash of its two counter words there, under its key. -/
theorem hash_holds {W : Valuation τ sig (Elt F)} {k0 k1 : Word} {x0 x1 : Words} {φ : fn_threefry2x32.Bufs}
    (H : Holds W (fn_threefry2x32.body (F := F) k0 k1 x0 x1 φ)) (j : S2000000x8.Idx) :
    (rd W φ.v171 j, rd W φ.v175 j) = hash (rd W k0 pt) (rd W k1 pt) (rd W x0 j, rd W x1 j) := by
  unfold fn_threefry2x32.body fn_threefry2x32.body_part0 fn_threefry2x32.body_part1 fn_threefry2x32.body_part2
    fn_threefry2x32.body_part3 at H
  simp only [holds_bind, holds_last, holds_ret, binary_holds, unary_holds, nullary_holds, and_assoc] at H
  obtain ⟨a0, a1, a2, a3, a4, a5, a6, H⟩ := H
  obtain ⟨r1, H⟩ := turn_holds (by decide) (by decide) H
  obtain ⟨r2, H⟩ := turn_holds (by decide) (by decide) H
  obtain ⟨r3, H⟩ := turn_holds (by decide) (by decide) H
  obtain ⟨r4, H⟩ := turn_holds (by decide) (by decide) H
  obtain ⟨i1, H⟩ := inject_holds H
  obtain ⟨r5, H⟩ := turn_holds (by decide) (by decide) H
  obtain ⟨r6, H⟩ := turn_holds (by decide) (by decide) H
  obtain ⟨r7, H⟩ := turn_holds (by decide) (by decide) H
  obtain ⟨r8, H⟩ := turn_holds (by decide) (by decide) H
  obtain ⟨i2, H⟩ := inject_holds H
  obtain ⟨r9, H⟩ := turn_holds (by decide) (by decide) H
  obtain ⟨r10, H⟩ := turn_holds (by decide) (by decide) H
  obtain ⟨r11, H⟩ := turn_holds (by decide) (by decide) H
  obtain ⟨r12, H⟩ := turn_holds (by decide) (by decide) H
  obtain ⟨i3, H⟩ := inject_holds H
  obtain ⟨r13, H⟩ := turn_holds (by decide) (by decide) H
  obtain ⟨r14, H⟩ := turn_holds (by decide) (by decide) H
  obtain ⟨r15, H⟩ := turn_holds (by decide) (by decide) H
  obtain ⟨r16, H⟩ := turn_holds (by decide) (by decide) H
  obtain ⟨i4, H⟩ := inject_holds H
  obtain ⟨r17, H⟩ := turn_holds (by decide) (by decide) H
  obtain ⟨r18, H⟩ := turn_holds (by decide) (by decide) H
  obtain ⟨r19, H⟩ := turn_holds (by decide) (by decide) H
  obtain ⟨r20, H⟩ := turn_holds (by decide) (by decide) H
  obtain ⟨i5, -⟩ := inject_holds H
  have hk : rd W φ.v1 pt = key2 (rd W k0 pt) (rd W k1 pt) := by rw [a2, a1, a0]; rfl
  have h2 : rd W φ.v2 j = rd W k0 pt := by rw [a3]; exact broadcast_scalar _ j
  have h4 : rd W φ.v4 j = rd W k1 pt := by rw [a5]; exact broadcast_scalar _ j
  have h : (rd W φ.v3 j, rd W φ.v5 j) = (rd W x0 j + rd W k0 pt, rd W x1 j + rd W k1 pt) := by
    rw [a4, a6]
    simp only [addi, IntOp.addi, h2, h4]
  rw [i5, r20, r19, r18, r17, i4, r16, r15, r14, r13, i3, r12, r11, r10, r9, i2, r8, r7, r6, r5, i1, r4, r3, r2, r1, hk, h]
  rfl

end Cert.ReferenceIdeal

end
-- ==== Proof.Pick.lean ====
/-
  A choice among eight by the greatest key, the least index among equal keys: what it is, that it is unique, and
  that the reference's arg-max returns it.
-/
module

public import proofs.«01_k».proof.Proof.RefHash
public import Idealize.ShloMosaic.PureOps.Ideal.Laws
public import Idealize.ShloMosaic.Lib.IdealHost
public import Idealize.ShloMosaic.Lib.ValueIdxCore
public import Idealize.ShloMosaic.Lib.ValueIdxCoords

@[expose] public section

set_option maxRecDepth 16384

noncomputable section

/-- `k` has the greatest key, and the least index among those that have it. -/
def Picks {β : Type} [LinearOrder β] (key : Fin 8 → β) (k : Fin 8) : Prop :=
  ∀ k', key k' < key k ∨ (key k' = key k ∧ k ≤ k')

theorem Picks.unique {β : Type} [LinearOrder β] {key : Fin 8 → β} {k l : Fin 8} (hk : Picks key k) (hl : Picks key l) : k = l := by
  rcases hk l with h | ⟨h, hkl⟩ <;> rcases hl k with h' | ⟨h', hlk⟩
  · exact absurd h (lt_asymm h')
  · exact absurd h' h.ne'
  · exact absurd h h'.ne'
  · exact le_antisymm hkl hlk

theorem Picks.of_lt_iff {β γ : Type} [LinearOrder β] [LinearOrder γ] {key : Fin 8 → β} {key' : Fin 8 → γ} {k : Fin 8}
    (h : ∀ i j, key i < key j ↔ key' i < key' j) (hk : Picks key k) : Picks key' k := fun k' => by
  rcases hk k' with h' | ⟨h', hk'⟩
  · exact .inl ((h _ _).1 h')
  · refine .inr ⟨le_antisymm (not_lt.1 fun hl => ?_) (not_lt.1 fun hl => ?_), hk'⟩
    · exact absurd ((h _ _).2 hl) (by rw [h']; exact lt_irrefl _)
    · exact absurd ((h _ _).2 hl) (by rw [h']; exact lt_irrefl _)

/-- A fold by the better of two, from an initial element: its result is one of those met, no worse than any of them. -/
theorem foldl_best {γ : Type} (le : γ → γ → Prop) (hr : ∀ a, le a a) (ht : ∀ a b c, le a b → le b c → le a c) (f : γ → γ → γ)
    (hf : ∀ a b, (f a b = a ∨ f a b = b) ∧ le a (f a b) ∧ le b (f a b)) (l : List γ) :
    ∀ a, (l.foldl f a = a ∨ l.foldl f a ∈ l) ∧ le a (l.foldl f a) ∧ ∀ b ∈ l, le b (l.foldl f a) := by
  induction l with
  | nil => exact fun a => ⟨.inl rfl, hr a, fun _ h => nomatch h⟩
  | cons c l ih =>
    intro a
    obtain ⟨h1, h2, h3⟩ := ih (f a c)
    obtain ⟨g1, g2, g3⟩ := hf a c
    rw [List.foldl_cons]
    refine ⟨?_, ht _ _ _ g2 h2, List.forall_mem_cons.2 ⟨ht _ _ _ g3 h2, h3⟩⟩
    rcases h1 with h1 | h1
    · rw [h1]
      rcases g1 with g1 | g1
      · exact .inl g1
      · exact .inr (by rw [g1]; exact List.mem_cons_self)
    · exact .inr (List.mem_cons_of_mem _ h1)

namespace Cert.ReferenceIdeal

open Idealize.ShloMosaic Idealize.ShloMosaic.StableHlo Idealize.SL.Sem Idealize.ShloMosaic.ValueIdx Ssa Threefry

/-- `b` is at least as good as `a`: a greater value, or the same value and an index no greater. -/
def Better (a b : Ideal .f32 × BitVec 32) : Prop := (a.1 : EReal) < b.1 ∨ ((a.1 : EReal) = b.1 ∧ b.2.toInt ≤ a.2.toInt)

theorem reducer_better (a b : Ideal .f32 × BitVec 32) :
    (reducer_argmax_f32_i32 a b = a ∨ reducer_argmax_f32_i32 a b = b) ∧ Better a (reducer_argmax_f32_i32 a b)
      ∧ Better b (reducer_argmax_f32_i32 a b) := by
  obtain ⟨x, i⟩ := a
  obtain ⟨y, j⟩ := b
  have hc : reducer_argmax_f32_i32 (F := Ideal) (x, i) (y, j) = (if (y : EReal) < x then (x : EReal) else y,
      if (y : EReal) < x ∨ ((x : EReal) = y ∧ i.toInt < j.toInt) then i else j) := by
    simp only [reducer_argmax_f32_i32, Ideal.cmpf_def, Ideal.cmp, IntOp.ori, IntOp.andi, IntOp.cmpi, Scalar.select, BitVec.slt]
    by_cases h1 : (y : EReal) < x <;> by_cases h2 : (x : EReal) = y <;> by_cases h3 : i.toInt < j.toInt <;> simp [h1, h2, h3]
  rw [hc]
  rcases lt_trichotomy (y : EReal) x with h | h | h
  · rw [if_pos h, if_pos (.inl h)]
    exact ⟨.inl rfl, .inr ⟨rfl, le_refl _⟩, .inl h⟩
  · obtain rfl : y = x := h
    rw [if_neg (lt_irrefl (y : EReal))]
    by_cases h3 : i.toInt < j.toInt
    · rw [if_pos (.inr ⟨rfl, h3⟩)]
      exact ⟨.inl rfl, .inr ⟨rfl, le_refl _⟩, .inr ⟨rfl, h3.le⟩⟩
    · rw [if_neg (by rintro (h | h); exacts [lt_irrefl _ h, h3 h.2])]
      exact ⟨.inr rfl, .inr ⟨rfl, not_lt.1 h3⟩, .inr ⟨rfl, le_refl _⟩⟩
  · rw [if_neg h.not_gt, if_neg (by rintro (h' | h'); exacts [lt_asymm h h', h.ne h'.1])]
    exact ⟨.inr rfl, .inl h, .inr ⟨rfl, le_refl _⟩⟩

/-- @argmax at row `n`, of finite values: the index picked by the values of the row. -/
theorem argmax_holds {W : Valuation τ sig (Elt Ideal)} {x : TRef sig ⟨S2000000x8, .f32⟩} {φ : fn_argmax.Bufs}
    (H : Holds W (fn_argmax.body (F := Ideal) x φ)) (n : Fin 2000000) (hx : ∀ k : Fin 8, (⊥ : EReal) < rd W x (ix2 n k)) :
    ∃ k : Fin 8, rd W φ.v1_1 (ix1 n) = BitVec.ofNat 32 k.val ∧ Picks (fun k => (rd W x (ix2 n k) : EReal)) k := by
  unfold fn_argmax.body at H
  simp only [holds_bind, holds_last, holds_ret, nullary_holds, quaternary_holds, and_assoc] at H
  obtain ⟨h0, h1, h2, -, h4, -⟩ := H
  have h5 := congrFun h4 (ix1 n)
  rw [Ideal.argReduce_eq_reduce2] at h5
  simp only [Host.reduce2, h0, h1, h2] at h5
  rw [h5]
  clear h5 h4 h0 h1 h2
  set L := (List.finRange S2000000x8.numel).filter fun m => Facts₀.reducesTo_S2000000x8_S2000000_d1.drop (S2000000x8.rowMajor.symm m) = ix1 n with hL
  have hmem : ∀ m, m ∈ L ↔ ∃ k : Fin 8, S2000000x8.rowMajor.symm m = ix2 n k := fun m => by
    rw [hL, List.mem_filter, decide_eq_true_eq]
    generalize S2000000x8.rowMajor.symm m = i
    constructor
    · rintro ⟨-, h⟩
      have h0 : i 0 = n := Fin.ext <| by
        rw [← Shape.ReducesTo.drop_apply_val_of_eq Facts₀.reducesTo_S2000000x8_S2000000_d1 i 0 0, h]
      exact ⟨i 1, (eq_ix2 i).trans (congrArg (fun a : Fin 2000000 => ix2 a (i 1)) h0)⟩
    · rintro ⟨k, rfl⟩
      refine ⟨List.mem_finRange _, ?_⟩
      funext b
      obtain rfl : b = 0 := Subsingleton.elim _ _
      exact Fin.ext (Shape.ReducesTo.drop_apply_val_of_eq Facts₀.reducesTo_S2000000x8_S2000000_d1 (ix2 n k) 0 0)
  clear_value L
  have hfold := foldl_best Better (fun a => .inr ⟨rfl, le_refl _⟩) (fun a b c h h' => by
    rcases h with h | ⟨h, g⟩ <;> rcases h' with h' | ⟨h', g'⟩
    · exact .inl (h.trans h')
    · exact .inl (h' ▸ h)
    · exact .inl (h ▸ h')
    · exact .inr ⟨h.trans h', g'.trans g⟩) (reducer_argmax_f32_i32 (F := Ideal)) reducer_better
    (L.map fun m => (rd W x (S2000000x8.rowMajor.symm m), iotaInDim S2000000x8 32 1 (S2000000x8.rowMajor.symm m)))
    ((constant (F := Ideal) S_ .f32 0xFF800000#32) (Shape.Idx.first Facts₀.h_S_), (constantI S_ 32 0#32) (Shape.Idx.first Facts₀.h_S_))
  rw [List.foldl_map] at hfold
  obtain ⟨f1, -, f3⟩ := hfold
  generalize L.foldl _ _ = r at f1 f3 ⊢
  have f3' : ∀ k : Fin 8, Better (rd W x (ix2 n k), BitVec.ofNat 32 k.val) r := fun k => by
    refine f3 _ (List.mem_map.2 ⟨S2000000x8.rowMajor (ix2 n k), (hmem _).2 ⟨k, Equiv.symm_apply_apply _ _⟩, ?_⟩)
    rw [Equiv.symm_apply_apply]
    rfl
  have hbot : (constant (F := Ideal) S_ .f32 0xFF800000#32) (Shape.Idx.first Facts₀.h_S_) = (⊥ : EReal) := by
    show Ideal.ieee 8 23 0xFF800000#32 = _
    unfold Ideal.ieee
    have h1 : (BitVec.extractLsb' 23 8 0xFF800000#32).toNat = 2 ^ 8 - 1 := by decide
    have h2 : (BitVec.extractLsb' 0 23 0xFF800000#32).toNat = 0 := by decide
    have h3 : (BitVec.extractLsb' (8 + 23) 1 0xFF800000#32 == 1#1) = true := by decide
    simp only [h1, h2, h3, if_true]
  have f1' : ∃ k : Fin 8, r = (rd W x (ix2 n k), BitVec.ofNat 32 k.val) := by
    rcases f1 with f1 | f1
    · exfalso
      rcases f3' 0 with h | ⟨h, -⟩
      · rw [f1] at h
        exact not_lt_bot (lt_of_lt_of_eq h hbot)
      · rw [f1] at h
        exact absurd (hx 0) (by rw [show (rd W x (ix2 n 0) : EReal) = ⊥ from h.trans hbot]; exact lt_irrefl _)
    · obtain ⟨m, hm, h⟩ := List.mem_map.1 f1
      obtain ⟨k, hk⟩ := (hmem m).1 hm
      refine ⟨k, ?_⟩
      rw [← h, hk]
      rfl
  obtain ⟨k, hk⟩ := f1'
  refine ⟨k, by rw [hk], fun k' => ?_⟩
  rcases f3' k' with h | ⟨h, h'⟩
  · rw [hk] at h
    exact .inl h
  · rw [hk] at h h'
    refine .inr ⟨h, ?_⟩
    have e : ∀ k : Fin 8, (BitVec.ofNat 32 k.val).toInt = k.val := by decide
    simp only [e] at h'
    exact Fin.le_def.2 (by omega)

end Cert.ReferenceIdeal

end
-- ==== Proof.Take.lean ====
/-
  The reference's row lookups read at an index: at a row index below eight, the row of the table.
-/
module

public import proofs.«01_k».proof.Proof.Pick

@[expose] public section

set_option maxRecDepth 16384

noncomputable section

namespace Cert.ReferenceIdeal

open Idealize.ShloMosaic Idealize.ShloMosaic.StableHlo Idealize.SL.Sem Idealize.ShloMosaic.ValueIdx Ssa

section Gather

variable {α : Type} {w : Nat}

/-- The row a start index names. -/
abbrev rowOf (idx : IVec S2000000x1 w) (n : Fin 2000000) : Fin 8 := ⟨min (idx (ix2 n 0)).toInt.toNat 7, by omega⟩

theorem gather_matrices (x : S8x3x3.Idx → α) (idx : IVec S2000000x1 w) (n : Fin 2000000) (d c : Fin 3) :
    Host.gather gather_S8x3x3_S2000000x1_S2000000x3x3_12_0_n_n_0_1_133 x idx (ix3 n d c) = x (ix3 (rowOf idx n) d c) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have ha : (a = 0 ∨ a = 1 ∨ a = 2) := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S8x3x3_S2000000x1_S2000000x3x3_12_0_n_n_0_1_133.startIndexMap from List.mem_singleton.mpr rfl)]
    refine congrArg (fun i => min (idx i).toInt.toNat 7) ?_
    funext b
    refine Fin.ext ?_
    match b with
    | ⟨0, _⟩ => rfl
    | ⟨1, _⟩ => rfl
  · unfold GatherDims.start
    rw [dif_neg (fun h : (1 : Fin 3) ∈ gather_S8x3x3_S2000000x1_S2000000x3x3_12_0_n_n_0_1_133.startIndexMap => absurd (List.mem_singleton.mp h) (by decide))]
    exact Nat.zero_add _
  · unfold GatherDims.start
    rw [dif_neg (fun h : (2 : Fin 3) ∈ gather_S8x3x3_S2000000x1_S2000000x3x3_12_0_n_n_0_1_133.startIndexMap => absurd (List.mem_singleton.mp h) (by decide))]
    exact Nat.zero_add _

theorem gather_rows (x : S8x3.Idx → α) (idx : IVec S2000000x1 w) (n : Fin 2000000) (c : Fin 3) :
    Host.gather gather_S8x3_S2000000x1_S2000000x3_1_0_n_n_0_1_13 x idx (ix2 n c) = x (ix2 (rowOf idx n) c) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have ha : (a = 0 ∨ a = 1) := by
    match a with
    | ⟨0, _⟩ => exact .inl rfl
    | ⟨1, _⟩ => exact .inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S8x3_S2000000x1_S2000000x3_1_0_n_n_0_1_13.startIndexMap from List.mem_singleton.mpr rfl)]
    refine congrArg (fun i => min (idx i).toInt.toNat 7) ?_
    funext b
    refine Fin.ext ?_
    match b with
    | ⟨0, _⟩ => rfl
    | ⟨1, _⟩ => rfl
  · unfold GatherDims.start
    rw [dif_neg (fun h : (1 : Fin 2) ∈ gather_S8x3_S2000000x1_S2000000x3_1_0_n_n_0_1_13.startIndexMap => absurd (List.mem_singleton.mp h) (by decide))]
    exact Nat.zero_add _

end Gather

/-- A row of one element that holds: its conjunction holds. -/
theorem reduce_and_one (x : IVec S2000000x1 1) (v : IVec S_ 1) (hv : ∀ i, v i = 1#1) (n : Fin 2000000) (hx : x (ix2 n 0) = 1#1) :
    Host.reduce IntOp.andi x v Facts₀.reducesTo_S2000000x1_S2000000_d1 Facts₀.h_S_ (ix1 n) = 1#1 := by
  unfold Host.reduce
  rw [hv]
  have hmem : ∀ m ∈ (List.finRange S2000000x1.numel).filter (fun m =>
      Facts₀.reducesTo_S2000000x1_S2000000_d1.drop (S2000000x1.rowMajor.symm m) = ix1 n), x (S2000000x1.rowMajor.symm m) = 1#1 := fun m hm => by
    rw [List.mem_filter, decide_eq_true_eq] at hm
    generalize S2000000x1.rowMajor.symm m = i at hm
    have h0 : i 0 = n := Fin.ext <| by
      rw [← Shape.ReducesTo.drop_apply_val_of_eq Facts₀.reducesTo_S2000000x1_S2000000_d1 i 0 0, hm.2]
    have h1 : i 1 = (0 : Fin 1) := Subsingleton.elim (α := Fin 1) _ _
    rw [← hx]
    exact congrArg x ((eq_ix2 i).trans (congrArg₂ (fun (a : Fin 2000000) (b : Fin 1) => ix2 a b) h0 h1))
  revert hmem
  generalize (List.finRange S2000000x1.numel).filter _ = L
  intro hmem
  induction L with
  | nil => rfl
  | cons m L ih =>
    rw [List.foldl_cons, hmem m List.mem_cons_self]
    exact ih fun m' h => hmem m' (List.mem_cons_of_mem _ h)

variable {W : Valuation τ sig (Elt Ideal)}

/-- A row index below eight: it is not negative, it is in bounds, and it names its row. -/
theorem wrap_small (k : Fin 8) : Scalar.select (IntOp.cmpi .slt (BitVec.ofNat 32 k.val) 0#32) (IntOp.addi (BitVec.ofNat 32 k.val) 8#32)
    (BitVec.ofNat 32 k.val) = BitVec.ofNat 32 k.val := by
  revert k
  decide

theorem inside_small (k : Fin 8) : IntOp.andi (IntOp.cmpi .sge (BitVec.ofNat 32 k.val) 0#32) (IntOp.cmpi .sle (BitVec.ofNat 32 k.val) 7#32)
    = 1#1 := by
  revert k
  decide

theorem row_small (k : Fin 8) : min (BitVec.ofNat 32 k.val).toInt.toNat 7 = k.val := by
  revert k
  decide

/-- @_take of the matrices. -/
theorem take_holds {x : TRef sig ⟨S8x3x3, .f32⟩} {ix : TRef sig ⟨S2000000, .i32⟩} {φ : fn_take.Bufs}
    (H : Holds W (fn_take.body (F := Ideal) x ix φ)) {n : Fin 2000000} {k : Fin 8} (hk : rd W ix (ix1 n) = BitVec.ofNat 32 k.val)
    (d c : Fin 3) : rd W φ.v16 (ix3 n d c) = rd W x (ix3 k d c) := by
  unfold fn_take.body fn_where.body at H
  simp only [holds_bind, holds_last, holds_ret, nullary_holds, unary_holds, binary_holds, ternary_holds, and_assoc] at H
  obtain ⟨a0, a1, a2, a3, a4, a5, a6, -, a7, a8, a9, a10, a11, a12, a13, a14, a15, a16, a17, a18, a19, a20, a21, a22, -⟩ := H
  have h7 : rd W φ.call0.v0 (ix1 n) = BitVec.ofNat 32 k.val := by
    rw [a6, a5, a4, a3, a2, a1, a0, ← wrap_small k, ← hk]
    rfl
  have h8 : rd W φ.v5 (ix2 n 0) = BitVec.ofNat 32 k.val := by
    rw [← h7, a7]
    exact congrArg (rd W φ.call0.v0) (eq_ix1 _)
  have h17 : rd W φ.v12 (ix1 n) = 1#1 := by
    rw [a17]
    refine reduce_and_one _ _ (fun _ => by rw [a16]; rfl) n ?_
    rw [a15, a14, a13, a12, a11, a10, a9, a8, ← inside_small k, ← h8]
    rfl
  have h14 : rd W φ.v14 (ix3 n d c) = 1#1 := by
    rw [← h17, a19]
    exact congrArg (rd W φ.v12) (eq_ix1 _)
  have h13 : rd W φ.v13 (ix3 n d c) = rd W x (ix3 k d c) := by
    rw [a18, gather_matrices]
    refine congrArg (fun r : Fin 8 => rd W x (ix3 r d c)) (Fin.ext ?_)
    show min (rd W φ.v5 (ix2 n 0)).toInt.toNat 7 = k.val
    rw [h8, row_small]
  rw [a22, ← h13]
  show Scalar.select (rd W φ.v14 (ix3 n d c)) _ _ = _
  rw [h14]
  rfl

/-- @_take of a table of rows. -/
theorem take0_holds {x : TRef sig ⟨S8x3, .f32⟩} {ix : TRef sig ⟨S2000000, .i32⟩} {φ : fn_take_0.Bufs}
    (H : Holds W (fn_take_0.body (F := Ideal) x ix φ)) {n : Fin 2000000} {k : Fin 8} (hk : rd W ix (ix1 n) = BitVec.ofNat 32 k.val)
    (c : Fin 3) : rd W φ.v16 (ix2 n c) = rd W x (ix2 k c) := by
  unfold fn_take_0.body fn_where.body at H
  simp only [holds_bind, holds_last, holds_ret, nullary_holds, unary_holds, binary_holds, ternary_holds, and_assoc] at H
  obtain ⟨a0, a1, a2, a3, a4, a5, a6, -, a7, a8, a9, a10, a11, a12, a13, a14, a15, a16, a17, a18, a19, a20, a21, a22, -⟩ := H
  have h7 : rd W φ.call0.v0 (ix1 n) = BitVec.ofNat 32 k.val := by
    rw [a6, a5, a4, a3, a2, a1, a0, ← wrap_small k, ← hk]
    rfl
  have h8 : rd W φ.v5 (ix2 n 0) = BitVec.ofNat 32 k.val := by
    rw [← h7, a7]
    exact congrArg (rd W φ.call0.v0) (eq_ix1 _)
  have h17 : rd W φ.v12 (ix1 n) = 1#1 := by
    rw [a17]
    refine reduce_and_one _ _ (fun _ => by rw [a16]; rfl) n ?_
    rw [a15, a14, a13, a12, a11, a10, a9, a8, ← inside_small k, ← h8]
    rfl
  have h14 : rd W φ.v14 (ix2 n c) = 1#1 := by
    rw [← h17, a19]
    exact congrArg (rd W φ.v12) (eq_ix1 _)
  have h13 : rd W φ.v13 (ix2 n c) = rd W x (ix2 k c) := by
    rw [a18, gather_rows]
    refine congrArg (fun r : Fin 8 => rd W x (ix2 r c)) (Fin.ext ?_)
    show min (rd W φ.v5 (ix2 n 0)).toInt.toNat 7 = k.val
    rw [h8, row_small]
  rw [a22, ← h13]
  show Scalar.select (rd W φ.v14 (ix2 n c)) _ _ = _
  rw [h14]
  rfl

end Cert.ReferenceIdeal

end
-- ==== Proof.Gumbel.lean ====
/-
  The noise of the reference's draw as a function of one word of random bits: the uniform variate a word gives,
  and the Gumbel noise of that. Over the extended reals both are strictly increasing in the word's upper 23 bits,
  so comparing noises is comparing those.
-/
module

public import Idealize.ShloMosaic.PureOps.Ideal.Laws
public import Idealize.ShloMosaic.Lib.IdealHost

@[expose] public section

noncomputable section

namespace Gumbel

open Idealize.ShloMosaic

/-- The least positive normal number, where the variates start. -/
def tiny : ℝ := (2 : ℝ) ^ (-126 : Int)

theorem tiny_pos : 0 < tiny := by unfold tiny; positivity

theorem tiny_lt : tiny < 1 := by
  unfold tiny
  exact zpow_lt_one_of_neg₀ (by norm_num) (by norm_num)

theorem max_coe (x y : ℝ) : max (x : EReal) (y : EReal) = ((max x y : ℝ) : EReal) :=
  (EReal.coe_strictMono.monotone.map_max).symm

theorem ofBits_tiny : Ideal.ofBits .f32 0x00800000#32 = ((tiny : ℝ) : EReal) := by
  show Ideal.ieee 8 23 0x00800000#32 = _
  unfold Ideal.ieee tiny
  have h1 : (BitVec.extractLsb' 23 8 0x00800000#32).toNat = 1 := by decide
  have h2 : (BitVec.extractLsb' 0 23 0x00800000#32).toNat = 0 := by decide
  have h3 : (BitVec.extractLsb' (8 + 23) 1 0x00800000#32 == 1#1) = false := by decide
  simp only [h1, h2, h3]
  norm_num

/-- The upper 23 bits of a word, a number. -/
abbrev top (b : BitVec 32) : Nat := (b >>> 9).toNat

theorem top_lt (b : BitVec 32) : top b < 2 ^ 23 := by
  have := b.isLt
  simp only [top, BitVec.toNat_ushiftRight, Nat.shiftRight_eq_div_pow]
  omega

/-- A word's upper bits as the significand of a number in [1, 2). -/
theorem ofBits_top (b : BitVec 32) :
    Ideal.ofBits .f32 (b >>> 9 ||| 1065353216#32) = ((1 + (top b : ℝ) / 2 ^ 23 : ℝ) : EReal) := by
  show Ideal.ieee 8 23 _ = _
  unfold Ideal.ieee
  have hw : (b >>> 9 ||| 1065353216#32).toNat = 2 ^ 23 * 127 + top b := by
    rw [Nat.two_pow_add_eq_or_of_lt (top_lt b), BitVec.toNat_or, Nat.or_comm]
    rfl
  have ht := top_lt b
  have h1 : (BitVec.extractLsb' 23 8 (b >>> 9 ||| 1065353216#32)).toNat = 127 := by
    rw [BitVec.extractLsb'_toNat, hw, Nat.shiftRight_eq_div_pow]
    omega
  have h2 : (BitVec.extractLsb' 0 23 (b >>> 9 ||| 1065353216#32)).toNat = top b := by
    rw [BitVec.extractLsb'_toNat, hw, Nat.shiftRight_eq_div_pow]
    omega
  have h3 : (BitVec.extractLsb' (8 + 23) 1 (b >>> 9 ||| 1065353216#32)).toNat = 0 := by
    rw [BitVec.extractLsb'_toNat, hw, Nat.shiftRight_eq_div_pow]
    omega
  have h4 : (BitVec.extractLsb' (8 + 23) 1 (b >>> 9 ||| 1065353216#32) == 1#1) = false := by
    rw [beq_eq_false_iff_ne]
    intro h
    rw [h] at h3
    exact absurd h3 (by decide)
  simp only [h1, h2, h4]
  rw [if_neg (by decide), if_neg (by decide)]
  refine congrArg (fun r : ℝ => (r : EReal)) ?_
  have h5 : (2 : ℝ) ^ (((127 : Nat) : Int) - (2 ^ (8 - 1) - 1) - ((23 : Nat) : Int)) = 1 / 2 ^ 23 := by norm_num
  rw [h5]
  push_cast
  norm_num
  ring

/-- The uniform variate of a word, in [tiny, 1). -/
def unif (m : Nat) : ℝ := max tiny ((m : ℝ) / 2 ^ 23 * (1 - tiny) + tiny)

/-- The noise of a word of `m` upper bits. -/
def noise (m : Nat) : ℝ := -Real.log (-Real.log (unif m))

theorem unif_eq (m : Nat) : unif m = (m : ℝ) / 2 ^ 23 * (1 - tiny) + tiny := by
  refine max_eq_right ?_
  have := tiny_lt
  have : 0 ≤ (m : ℝ) / 2 ^ 23 * (1 - tiny) := mul_nonneg (by positivity) (by linarith)
  linarith

theorem unif_pos (m : Nat) : 0 < unif m := lt_of_lt_of_le tiny_pos (le_max_left _ _)

theorem unif_lt_one {m : Nat} (h : m < 2 ^ 23) : unif m < 1 := by
  rw [unif_eq]
  have h' : (m : ℝ) / 2 ^ 23 < 1 := by
    rw [div_lt_one (by positivity)]
    exact_mod_cast h
  nlinarith [tiny_lt]

theorem unif_lt {m k : Nat} (h : m < k) : unif m < unif k := by
  rw [unif_eq, unif_eq]
  have h' : (m : ℝ) / 2 ^ 23 < (k : ℝ) / 2 ^ 23 := by
    have : (m : ℝ) < k := by exact_mod_cast h
    gcongr
  nlinarith [tiny_lt]

theorem neg_log_pos {m : Nat} (h : m < 2 ^ 23) : 0 < -Real.log (unif m) :=
  neg_pos.2 (Real.log_neg (unif_pos m) (unif_lt_one h))

theorem noise_lt {m k : Nat} (hk : k < 2 ^ 23) (h : m < k) : noise m < noise k :=
  neg_lt_neg (Real.log_lt_log (neg_log_pos hk) (neg_lt_neg (Real.log_lt_log (unif_pos m) (unif_lt h))))

theorem noise_lt_iff {m k : Nat} (hm : m < 2 ^ 23) (hk : k < 2 ^ 23) : noise m < noise k ↔ m < k := by
  refine ⟨fun h => not_le.1 fun hle => ?_, noise_lt hk⟩
  rcases hle.lt_or_eq with h' | rfl
  · exact lt_asymm h (noise_lt hm h')
  · exact lt_irrefl _ h

/-- The program's operations on a word give the noise of its upper bits. -/
theorem noise_eq (b : BitVec 32) :
    -Ideal.log (-Ideal.log (max (Ideal.ofBits .f32 0x00800000#32 : EReal)
      (((Ideal.ofBits .f32 (b >>> 9 ||| 1065353216#32) : EReal) - (Ideal.ofBits .f32 0x3F800000#32 : EReal))
        * ((Ideal.ofBits .f32 0x3F800000#32 : EReal) - (Ideal.ofBits .f32 0x00800000#32 : EReal))
        + (Ideal.ofBits .f32 0x00800000#32 : EReal)))) = ((noise (top b) : ℝ) : EReal) := by
  have hu : max (Ideal.ofBits .f32 0x00800000#32 : EReal)
      (((Ideal.ofBits .f32 (b >>> 9 ||| 1065353216#32) : EReal) - (Ideal.ofBits .f32 0x3F800000#32 : EReal))
        * ((Ideal.ofBits .f32 0x3F800000#32 : EReal) - (Ideal.ofBits .f32 0x00800000#32 : EReal))
        + (Ideal.ofBits .f32 0x00800000#32 : EReal)) = ((unif (top b) : ℝ) : EReal) := by
    rw [ofBits_tiny, ofBits_top, Ideal.ofBits_one_f32, ← EReal.coe_one, ← EReal.coe_sub, ← EReal.coe_sub, ← EReal.coe_mul,
      ← EReal.coe_add, max_coe, unif, add_sub_cancel_left]
  rw [hu, Ideal.log_coe, if_neg (not_le.2 (unif_pos _)), ← EReal.coe_neg, Ideal.log_coe, if_neg (not_le.2 (neg_log_pos (top_lt b))),
    ← EReal.coe_neg]
  rfl

end Gumbel

end
-- ==== Proof.RefDraw.lean ====
/-
  The reference's noise at a point and a choice: the noise of the word its hash gives there.
-/
module

public import proofs.«01_k».proof.Proof.Take
public import proofs.«01_k».proof.Proof.Gumbel

@[expose] public section

set_option maxRecDepth 16384

noncomputable section

/-- The random word of point `n` and choice `k`. -/
def word (n : Nat) (k : Fin 8) : BitVec 32 :=
  (Threefry.hash 0#32 42#32 (0#32, BitVec.ofNat 32 (8 * n + k.val))).1 ^^^ (Threefry.hash 0#32 42#32 (0#32, BitVec.ofNat 32 (8 * n + k.val))).2

/-- The key by which a choice at point `n` is picked. -/
def key (n : Nat) (k : Fin 8) : Nat := Gumbel.top (word n k)

namespace Cert.ReferenceIdeal

open Idealize.ShloMosaic Idealize.ShloMosaic.StableHlo Idealize.SL.Sem Idealize.ShloMosaic.ValueIdx Ssa Threefry

variable {W : Valuation τ sig (Elt Ideal)}

/-- The 64-bit counter of point `n` and choice `k` is below 2^32. -/
theorem counter (n : Fin 2000000) (k : Fin 8) :
    8#64 * BitVec.ofNat 64 n.val + 1#64 * BitVec.ofNat 64 k.val = BitVec.ofNat 64 (8 * n.val + k.val) := by
  apply BitVec.eq_of_toNat_eq
  simp only [BitVec.toNat_add, BitVec.toNat_mul, BitVec.toNat_ofNat]
  omega

theorem counter_low (m : Nat) : (BitVec.ofNat 64 m).setWidth 32 = BitVec.ofNat 32 m := by
  apply BitVec.eq_of_toNat_eq
  simp only [BitVec.toNat_setWidth, BitVec.toNat_ofNat]
  omega

theorem counter_high {m : Nat} (h : m < 2 ^ 32) : (BitVec.ofNat 64 m >>> 32#64).setWidth 32 = 0#32 := by
  apply BitVec.eq_of_toNat_eq
  have e : (32#64).toNat = 32 := rfl
  simp only [BitVec.toNat_setWidth, BitVec.ushiftRight_eq', BitVec.toNat_ushiftRight, Nat.shiftRight_eq_div_pow, e]
  simp only [BitVec.toNat_ofNat]
  omega

/-- @_uniform's word at an index, before its upper bits are made a number. -/
theorem uniform_holds {a0 : TRef sig ⟨S2, .i32⟩} {lo hi : TRef sig ⟨S_, .f32⟩} {φ : fn_uniform.Bufs}
    (H : Holds W (fn_uniform.body (F := Ideal) a0 lo hi φ)) (h0 : rd W a0 (ix1 0) = 0#32) (h1 : rd W a0 (ix1 1) = 42#32)
    (n : Fin 2000000) (k : Fin 8) :
    rd W φ.v33 (ix2 n k) = max (rd W hi pt : EReal)
      (((Ideal.ofBits .f32 (word n k >>> 9 ||| 1065353216#32) : EReal) - (Ideal.ofBits .f32 0x3F800000#32 : EReal))
        * ((rd W lo pt : EReal) - (rd W hi pt : EReal)) + (rd W hi pt : EReal)) := by
  unfold fn_uniform.body at H
  simp only [holds_bind, holds_last, holds_ret, nullary_holds, unary_holds, binary_holds, reshape_holds, and_assoc] at H
  obtain ⟨b0, b1, b2, b3, b4, b5, b6, b7, b8, b9, b10, b11, b12, b13, b14, b15, b16, b17, b18, b19, b20, hh, b21, b22, b23, b24, b25, b26,
    b27, b28, b29, b30, b31, b32, b33, b34, b35, b36, b37, b38, -⟩ := H
  have k0 : rd W φ.v4 pt = 0#32 := by
    rw [b4, b3, ← h0]
    exact congrArg (rd W a0) (funext fun a => by obtain rfl : a = 0 := Subsingleton.elim _ _; rfl)
  have k1 : rd W φ.v6 pt = 42#32 := by
    rw [b6, b5, ← h1]
    exact congrArg (rd W a0) (funext fun a => by obtain rfl : a = 0 := Subsingleton.elim _ _; rfl)
  have c : rd W φ.v13 (ix2 n k) = BitVec.ofNat 64 (8 * n.val + k.val) := by
    rw [b15, b14, b13, b12, b11, b10, b9, b8, b7, ← counter]
    rfl
  have c1 : rd W φ.v16 (ix2 n k) = BitVec.ofNat 32 (8 * n.val + k.val) := by
    rw [b19, ← counter_low, ← c]
    rfl
  have c0 : rd W φ.v17 (ix2 n k) = 0#32 := by
    have hs : rd W φ.v14 (ix2 n k) = 32#64 := by rw [b17, b16]; rfl
    rw [b20, b18]
    show (IntOp.shrui _ (rd W φ.v13 (ix2 n k)) (rd W φ.v14 (ix2 n k))).setWidth 32 = 0#32
    rw [c, hs]
    simp only [IntOp.shrui]
    rw [if_pos (by decide)]
    exact counter_high (by omega)
  have hw := hash_holds hh (ix2 n k)
  rw [k0, k1, c0, c1] at hw
  have hx : rd W φ.v19 (ix2 n k) = word n k := by
    rw [b21]
    show rd W φ.call0.v171 (ix2 n k) ^^^ rd W φ.call0.v175 (ix2 n k) = word n k
    rw [word, ← hw]
  have h9 : rd W φ.v20 (ix2 n k) = 9#32 := by rw [b23, b22]; rfl
  have h21 : rd W φ.v21 (ix2 n k) = word n k >>> 9 := by
    rw [b24]
    show IntOp.shrui _ (rd W φ.v19 (ix2 n k)) (rd W φ.v20 (ix2 n k)) = _
    rw [hx, h9]
    simp only [IntOp.shrui]
    rw [if_pos (by decide)]
    rfl
  have h22 : rd W φ.v22 (ix2 n k) = 1065353216#32 := by rw [b26, b25]; rfl
  have h24 : rd W φ.v24 (ix2 n k) = Ideal.ofBits .f32 (word n k >>> 9 ||| 1065353216#32) := by
    rw [b28, b27, ← h21, ← h22]
    rfl
  have h25 : rd W φ.v25 (ix2 n k) = Ideal.ofBits .f32 0x3F800000#32 := by rw [b30, b29]; rfl
  have hlo : ∀ j, rd W φ.v2 j = rd W lo pt := fun j => by rw [b2, b0]; exact broadcast_scalar _ j
  have hhi : ∀ j, rd W φ.v1 j = rd W hi pt := fun j => by rw [b1]; exact broadcast_scalar _ j
  have h28 : rd W φ.v28 (ix2 n k) = (rd W lo pt : EReal) - (rd W hi pt : EReal) := by
    rw [b33, b32]
    exact congrArg₂ (fun x y : EReal => x - y) (hlo _) (hhi _)
  have h30 : rd W φ.v30 (ix2 n k) = rd W hi pt := by rw [b35]; exact hhi _
  have h32 : rd W φ.v32 (ix2 n k) = rd W hi pt := by rw [b37]; exact hhi _
  rw [b38, b36, b34, b31]
  show max (rd W φ.v32 (ix2 n k) : EReal) ((((rd W φ.v24 (ix2 n k) : EReal) - rd W φ.v25 (ix2 n k)) * rd W φ.v28 (ix2 n k) : EReal)
    + (rd W φ.v30 (ix2 n k) : EReal)) = _
  rw [h32, h30, h28, h24, h25]

/-- @_gumbel at an index: the noise of the word there. -/
theorem gumbel_holds {a0 : TRef sig ⟨S2, .i32⟩} {φ : fn_gumbel.Bufs}
    (H : Holds W (fn_gumbel.body (F := Ideal) a0 φ)) (h0 : rd W a0 (ix1 0) = 0#32) (h1 : rd W a0 (ix1 1) = 42#32)
    (n : Fin 2000000) (k : Fin 8) : rd W φ.v4 (ix2 n k) = ((Gumbel.noise (key n k) : ℝ) : EReal) := by
  unfold fn_gumbel.body at H
  simp only [holds_bind, holds_last, holds_ret, nullary_holds, unary_holds, and_assoc] at H
  obtain ⟨b0, b1, hu, b2, b3, b4, b5, -⟩ := H
  have e0 : rd W φ.cst pt = Ideal.ofBits .f32 0x3F800000#32 := by rw [b0]; rfl
  have e1 : rd W φ.cst_0 pt = Ideal.ofBits .f32 0x00800000#32 := by rw [b1]; rfl
  have hu' := uniform_holds hu h0 h1 n k
  rw [e0, e1] at hu'
  rw [b5, b4, b3, b2, key, ← Gumbel.noise_eq, ← hu']
  rfl

/-- selu over the extended reals, as the reference writes it. -/
def selu (x : EReal) : EReal :=
  (Ideal.ofBits .f32 0x3F867D5F#32 : EReal) * (if 0 < x then x else (Ideal.ofBits .f32 0x3FD62D7D#32 : EReal) * (Ideal.exp x - 1))

/-- @selu at an index. -/
theorem selu_holds {x : TRef sig ⟨S2000000x3, .f32⟩} {φ : fn_selu.Bufs} (H : Holds W (fn_selu.body (F := Ideal) x φ))
    (j : S2000000x3.Idx) : rd W φ.v2 j = selu (rd W x j) := by
  unfold fn_selu.body fn_elu.body fn_where_1.body fn_where_2.body at H
  simp only [holds_bind, holds_last, holds_ret, nullary_holds, unary_holds, binary_holds, ternary_holds, and_assoc] at H
  obtain ⟨a0, a1, a2, a3, a4, a5, a6, a7, a8, a9, a10, -, a11, a12, a13, a14, a15, -, -, a16, a17, a18, -⟩ := H
  have z0 : rd W φ.call0.v0 j = (0 : EReal) := by rw [a2, a1]; exact Ideal.ofBits_zero_f32
  have z2 : rd W φ.call0.v2 j = (0 : EReal) := by rw [a5, a4]; exact Ideal.ofBits_zero_f32
  have hα : rd W φ.call0.v7 j = Ideal.ofBits .f32 0x3FD62D7D#32 := by rw [a13, a12, a0]; rfl
  have hs : rd W φ.v1 j = Ideal.ofBits .f32 0x3F867D5F#32 := by rw [a17, a16]; rfl
  have c1 : rd W φ.call0.v1 j = BitVec.ofBool (decide ((0 : EReal) < rd W x j)) := by
    rw [a3, ← z0]
    rfl
  have c3 : rd W φ.call0.v3 j = BitVec.ofBool (decide ((0 : EReal) < rd W x j)) := by
    rw [a6, ← z2]
    rfl
  have e : rd W φ.v2 j = (rd W φ.v1 j : EReal) * Scalar.select (rd W φ.call0.v1 j) (rd W x j : EReal)
      ((rd W φ.call0.v7 j : EReal) * (Ideal.exp (Scalar.select (rd W φ.call0.v3 j) (rd W φ.call0.call0.v1 j) (rd W x j)) - 1)) := by
    rw [a18, a15, a14, a11, a10]
    rfl
  rw [e, hs, hα, c1, c3, selu]
  by_cases h : (0 : EReal) < rd W x j
  · simp only [h, decide_true, if_true]
    rfl
  · simp only [h, decide_false, if_false]
    rfl

end Cert.ReferenceIdeal

end
-- ==== Proof.KernelPick.lean ====
/-
  The kernel's choice: its ranking words order the choices as the reference's keys do, so the three bits that it reads
  off the greatest of them name the picked choice.
-/
module

public import proofs.«01_k».proof.Proof.KernelBody
public import proofs.«01_k».proof.Proof.RefDraw

@[expose] public section

noncomputable section

namespace Threefry

open Idealize.ShloMosaic

variable {α : Type}

theorem spin_turn (r l : BitVec 32) (hr : r.toNat < 32) (hl : l.toNat < 32) (f : BitVec 32 → BitVec 32 → α) (x : BitVec 32 × BitVec 32) :
    spin r l f x.1 x.2 = f (turn r l x).1 (turn r l x).2 := by
  simp only [spin, turn, IntOp.addi, IntOp.xori, IntOp.ori, IntOp.shli, IntOp.shrui, hr, hl, if_true]
  rw [BitVec.xor_comm]

theorem add_inject (a b c d : BitVec 32) (hd : d = b + c) (f : BitVec 32 → BitVec 32 → α) (x : BitVec 32 × BitVec 32) :
    add a d f x.1 x.2 = f (inject a b c x).1 (inject a b c x).2 := by
  simp only [add, inject, IntOp.addi, hd, BitVec.add_assoc]

theorem start_spin (f : BitVec 32 → BitVec 32 → α) (c : BitVec 32) : start f c = spin 13#32 19#32 f 0#32 c := by
  simp only [start, spin, IntOp.addi, BitVec.zero_add]

theorem spinA_mixA (f : BitVec 32 → BitVec 32 → α) (x : BitVec 32 × BitVec 32) :
    spin 13#32 19#32 (spinA f) x.1 x.2 = f (mixA x).1 (mixA x).2 := by
  rw [spin_turn _ _ (by decide) (by decide), spinA, spin_turn _ _ (by decide) (by decide), spin_turn _ _ (by decide) (by decide),
    spin_turn _ _ (by decide) (by decide), mixA]

theorem spinB_mixB (f : BitVec 32 → BitVec 32 → α) (x : BitVec 32 × BitVec 32) : spinB f x.1 x.2 = f (mixB x).1 (mixB x).2 := by
  rw [spinB, spin_turn _ _ (by decide) (by decide), spin_turn _ _ (by decide) (by decide), spin_turn _ _ (by decide) (by decide),
    spin_turn _ _ (by decide) (by decide), mixB]

/-- The kernel's word is the reference's. -/
theorem kernelWord_eq (c : BitVec 32) : kernelWord c = (hash 0#32 42#32 (0#32, c)).1 ^^^ (hash 0#32 42#32 (0#32, c)).2 := by
  have e : key2 0#32 42#32 = 466689008#32 := by decide
  rw [kernelWord, start_spin]
  refine (spinA_mixA _ (0#32 + 0#32, c + 42#32)).trans ?_
  rw [add_inject 42#32 466689008#32 1#32 _ (by decide), spinB_mixB, add_inject 466689008#32 0#32 2#32 _ (by decide), spinA_mixA,
    add_inject 0#32 42#32 3#32 _ (by decide), spinB_mixB, add_inject 42#32 466689008#32 4#32 _ (by decide), spinA_mixA,
    add_inject 466689008#32 0#32 5#32 _ (by decide), hash, e]
  rfl

theorem or_seven (x : Nat) : x ||| 7 = x / 8 * 8 + 7 := by
  have h : ∀ y < 8, y ||| 7 = 7 := by decide
  have e : x = (x / 8) <<< 3 ||| x % 8 := by
    rw [← Nat.shiftLeft_add_eq_or_of_lt (Nat.mod_lt x (by decide)), Nat.shiftLeft_eq]
    omega
  conv_lhs => rw [e, Nat.or_assoc, h _ (Nat.mod_lt x (by decide))]
  rw [← Nat.shiftLeft_add_eq_or_of_lt (by decide), Nat.shiftLeft_eq]

/-- A ranking word orders by the key, then by the lesser choice. -/
theorem rankWord_toNat {n : Nat} {v p : BitVec 32} (h : ∀ j : Fin 8, IntOp.addi p (IntOp.addi v (BitVec.ofNat 32 j.val)) = BitVec.ofNat 32 (8 * n + j.val))
    (j : Fin 8) : (rankWord v p (BitVec.ofNat 32 j.val)).toNat = key n j * 8 + (7 - j.val) := by
  have e : ((word n j >>> 6) ||| 7#32).toNat = key n j * 8 + 7 := by
    have e7 : (7#32).toNat = 7 := rfl
    rw [BitVec.toNat_or, e7, or_seven, key, Gumbel.top, BitVec.toNat_ushiftRight, BitVec.toNat_ushiftRight, Nat.shiftRight_eq_div_pow,
      Nat.shiftRight_eq_div_pow, Nat.div_div_eq_div_mul]
  have e' : rankWord v p (BitVec.ofNat 32 j.val) = ((word n j >>> 6) ||| 7#32) - BitVec.ofNat 32 j.val := by
    rw [rankWord, h, kernelWord_eq]
    rfl
  have hj : (BitVec.ofNat 32 j.val).toNat = j.val := by rw [BitVec.toNat_ofNat]; omega
  rw [e', BitVec.toNat_sub_of_le (by rw [BitVec.le_def, e, hj]; omega), e, hj]
  omega

theorem maxsi_toNat {x y : BitVec 32} (hx : x.toNat < 2 ^ 31) (hy : y.toNat < 2 ^ 31) : (IntOp.maxsi x y).toNat = max x.toNat y.toNat := by
  have e : y.slt x = decide (y.toNat < x.toNat) := by
    rw [BitVec.slt, BitVec.toInt_eq_toNat_of_lt (by omega), BitVec.toInt_eq_toNat_of_lt (by omega)]
    simp only [Nat.cast_lt]
  rw [IntOp.maxsi, e]
  by_cases hl : y.toNat < x.toNat
  · simp only [hl, decide_true, if_true]
    omega
  · simp only [hl, decide_false, Bool.false_eq_true, if_false]
    omega

theorem max_eight (r : Fin 8 → Nat) : ∃ k : Fin 8,
    max (max (max (max (max (max (max (r 0) (r 1)) (r 2)) (r 3)) (r 4)) (r 5)) (r 6)) (r 7) = r k ∧ ∀ j, r j ≤ r k := by
  obtain ⟨k, hk⟩ := Finite.exists_max r
  refine ⟨k, le_antisymm ?_ ?_, hk⟩
  · simp only [max_le_iff]
    exact ⟨⟨⟨⟨⟨⟨⟨hk 0, hk 1⟩, hk 2⟩, hk 3⟩, hk 4⟩, hk 5⟩, hk 6⟩, hk 7⟩
  · clear hk
    simp only [le_max_iff]
    revert k
    simp [Fin.forall_fin_succ]

theorem key_lt (n : Nat) (j : Fin 8) : key n j < 2 ^ 23 := Gumbel.top_lt _

/-- The greatest ranking word is that of the picked choice. -/
theorem bestWord_toNat {n : Nat} {v p : BitVec 32} (h : ∀ j : Fin 8, IntOp.addi p (IntOp.addi v (BitVec.ofNat 32 j.val)) = BitVec.ofNat 32 (8 * n + j.val)) :
    ∃ k : Fin 8, Picks (key n) k ∧ (bestWord v p).toNat = key n k * 8 + (7 - k.val) := by
  have step : ∀ (j : Fin 8) (m : BitVec 32), m.toNat < 2 ^ 31 →
      (rise v p (BitVec.ofNat 32 j.val) m).toNat = max m.toNat (key n j * 8 + (7 - j.val))
        ∧ (rise v p (BitVec.ofNat 32 j.val) m).toNat < 2 ^ 31 := fun j m hm => by
    have hk := key_lt n j
    have e : (rise v p (BitVec.ofNat 32 j.val) m).toNat = max m.toNat (key n j * 8 + (7 - j.val)) := by
      rw [rise, maxsi_toNat hm (by rw [rankWord_toNat h]; omega), rankWord_toNat h]
    exact ⟨e, by rw [e]; omega⟩
  have s0 : (rankWord v p 0#32).toNat = key n 0 * 8 + (7 - 0) := rankWord_toNat h 0
  have k0 := key_lt n 0
  obtain ⟨s1, l1⟩ := step 1 (rankWord v p 0#32) (by omega)
  obtain ⟨s2, l2⟩ := step 2 _ l1
  obtain ⟨s3, l3⟩ := step 3 _ l2
  obtain ⟨s4, l4⟩ := step 4 _ l3
  obtain ⟨s5, l5⟩ := step 5 _ l4
  obtain ⟨s6, l6⟩ := step 6 _ l5
  obtain ⟨s7, -⟩ := step 7 _ l6
  rw [s6, s5, s4, s3, s2, s1, s0] at s7
  obtain ⟨k, e, hk⟩ := max_eight fun j : Fin 8 => key n j * 8 + (7 - j.val)
  refine ⟨k, fun j => ?_, s7.trans e⟩
  have hj : key n j * 8 + (7 - j.val) ≤ key n k * 8 + (7 - k.val) := hk j
  by_cases h : key n j = key n k
  · refine .inr ⟨h, Fin.le_def.2 ?_⟩
    omega
  · left
    omega

theorem and_seven {b : BitVec 32} {m : Nat} {k : Fin 8} (h : b.toNat = m * 8 + (7 - k.val)) : IntOp.andi b 7#32 = BitVec.ofNat 32 (7 - k.val) := by
  apply BitVec.eq_of_toNat_eq
  have e7 : (7#32).toNat = 2 ^ 3 - 1 := rfl
  rw [IntOp.andi, BitVec.toNat_and, e7, Nat.and_two_pow_sub_one_eq_mod, h, BitVec.toNat_ofNat]
  omega

end Threefry

namespace Cert.KernelIdeal.Gen

open Idealize.ShloMosaic Threefry

theorem choose_bits {α : Type} (t : Fin 8 → α) (k : Fin 8) :
    choose (IntOp.cmpi .eq (IntOp.andi (BitVec.ofNat 32 (7 - k.val)) 1#32) 0#32) (IntOp.cmpi .eq (IntOp.andi (BitVec.ofNat 32 (7 - k.val)) 2#32) 0#32)
      (IntOp.cmpi .eq (IntOp.andi (BitVec.ofNat 32 (7 - k.val)) 4#32) 0#32) t = t k := by
  match k with
  | 0 => rfl
  | 1 => rfl
  | 2 => rfl
  | 3 => rfl
  | 4 => rfl
  | 5 => rfl
  | 6 => rfl
  | 7 => rfl

/-- The three bits name the picked choice. -/
theorem chosen_pick {n : Nat} {v p : BitVec 32}
    (h : ∀ j : Fin 8, IntOp.addi p (IntOp.addi v (BitVec.ofNat 32 j.val)) = BitVec.ofNat 32 (8 * n + j.val)) {k : Fin 8} (hk : Picks (key n) k)
    {α : Type} (t : Fin 8 → α) : chosen v p t = t k := by
  obtain ⟨l, hl, e⟩ := bestWord_toNat h
  obtain rfl := hl.unique hk
  have a := and_seven e
  rw [chosen, clear, clear, clear, a]
  exact choose_bits t l

end Cert.KernelIdeal.Gen

end
-- ==== Proof.KernelArray.lean ====
/-
  What the kernel leaves in its two arrays, at a place, the choice there being the one that the keys pick.
-/
module

public import proofs.«01_k».proof.Proof.KernelHost
public import proofs.«01_k».proof.Proof.KernelBlock
public import proofs.«01_k».proof.Proof.KernelPick
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.ValueIdx Threefry

/-- A point's counter for a choice, as the body adds it up. -/
theorem counter_eq (b : Fin 25) (g : Fin 625) (p : Fin 128) (j : Fin 8) :
    IntOp.addi (BitVec.ofNat 32 g.val * 1024#32 + BitVec.ofNat 32 p.val * 8#32)
        (IntOp.addi (Scalar.muli (BitVec.ofNat 32 b.val) 640000#32) (BitVec.ofNat 32 j.val))
      = BitVec.ofNat 32 (8 * (number b g p).val + j.val) := by
  apply BitVec.eq_of_toNat_eq
  simp only [IntOp.addi, Scalar.muli, IntOp.muli, BitVec.toNat_add, BitVec.toNat_mul, BitVec.toNat_ofNat, number]
  omega

variable {F : FTy → Type} [FloatOps F] (m : (ℓ : Loc nD τ sig) → Buf (Elt F) ℓ) (c : Dev nD)

theorem chosen_at (t : Fin cfg0.N) (g : Fin 625) (p : Fin 128) {k : Fin 8} (hk : Picks (key (number (block t) g p).val) k) (f : Fin 8 → F .f32) :
    chosen (base (grid0.coords t)) ((iblk m c 1 t : S625x128.Idx → BitVec 32) (ix2 g p)) f = f k := by
  obtain ⟨-, -, -, -, -, -, e⟩ := index_facts t
  refine chosen_pick (n := (number (block t) g p).val) (fun j => ?_) hk f
  rw [iblk_offsets, base, e]
  exact counter_eq (block t) g p j

theorem disjoint4 : ∀ t t' : Fin cfg0.N, (cfg0.win 4).flush t = true → (cfg0.win 4).flush t' = true → t ≠ t' →
    Disjoint ((cfg0.win 4).blk t).view.set ((cfg0.win 4).blk t').view.set :=
  Pipeline.Window.hdisj_of_index_inj _ fun t t' _ _ h => by
    obtain ⟨-, -, -, -, ⟨-, e, -⟩, -⟩ := index_facts t
    obtain ⟨-, -, -, -, ⟨-, e', -⟩, -⟩ := index_facts t'
    exact Fin.ext (e.symm.trans ((congrFun h 1).trans e'))

theorem disjoint5 : ∀ t t' : Fin cfg0.N, (cfg0.win 5).flush t = true → (cfg0.win 5).flush t' = true → t ≠ t' →
    Disjoint ((cfg0.win 5).blk t).view.set ((cfg0.win 5).blk t').view.set :=
  Pipeline.Window.hdisj_of_index_inj _ fun t t' _ _ h => by
    obtain ⟨-, -, -, -, -, ⟨-, e, -⟩, -⟩ := index_facts t
    obtain ⟨-, -, -, -, -, ⟨-, e', -⟩, -⟩ := index_facts t'
    exact Fin.ext (e.symm.trans ((congrFun h 1).trans e'))

theorem flush_all : ∀ t : Fin cfg0.N, (cfg0.win 4).flush t = true ∧ (cfg0.win 5).flush t = true :=
  (by decide +kernel : ∀ t : Fin grid0.N, win0_4.flush t = true ∧ win0_5.flush t = true)

/-- The array of moved points, at a place. -/
theorem points_array (t : Fin cfg0.N) (q : Fin 3) (g : Fin 625) (p : Fin 128) {k : Fin 8} (hk : Picks (key (number (block t) g p).val) k) :
    ((dats m 0 c).arrAt 4 cfg0.N : S3x25x625x128.Idx → F .f32) (ix4 q (block t) g p)
      = active (movedBy (iblk m c 0 t) (iblk m c 2 t) q g p k) := by
  obtain ⟨-, -, -, -, ⟨e0, e1, e2, e3⟩, -⟩ := index_facts t
  have h := (dats m 0 c).arrAt_emb_eq_flushed 4 disjoint4 t (flush_all t).1 (ix4 q 0 g p : S3x1x625x128.Idx)
  have he : ((cfg0.win 4).blk t).view.emb (ix4 q 0 g p : S3x1x625x128.Idx) = (ix4 q (block t) g p : S3x25x625x128.Idx) := by
    funext a
    refine Fin.ext ?_
    match a with
    | ⟨0, _⟩ => show win0_4.index t 0 * 3 + 1 * q.val = q.val; omega
    | ⟨1, _⟩ => show win0_4.index t 1 * 1 + 1 * 0 = t.val; omega
    | ⟨2, _⟩ => show win0_4.index t 2 * 625 + 1 * g.val = g.val; omega
    | ⟨3, _⟩ => show win0_4.index t 3 * 128 + 1 * p.val = p.val; omega
  rw [he] at h
  refine h.trans ?_
  show (dats m 0 c).after 4 t (ix4 q 0 g p : S3x1x625x128.Idx) = _
  rw [after0_4, outsAt0]
  dsimp only
  generalize hz : iblk m c 0 t = z0
  have hc := fun f => chosen_at m c t g p hk f
  exact points_apply q g p hc

/-- The array of new colours, at a place. -/
theorem colours_array (t : Fin cfg0.N) (q : Fin 3) (g : Fin 625) (p : Fin 128) {k : Fin 8} (hk : Picks (key (number (block t) g p).val) k) :
    ((dats m 0 c).arrAt 5 cfg0.N : S3x25x625x128.Idx → F .f32) (ix4 q (block t) g p)
      = mixedBy (iblk m c 0 t) (iblk m c 3 t) q g p k := by
  obtain ⟨-, -, -, -, -, ⟨e0, e1, e2, e3⟩, -⟩ := index_facts t
  have h := (dats m 0 c).arrAt_emb_eq_flushed 5 disjoint5 t (flush_all t).2 (ix4 q 0 g p : S3x1x625x128.Idx)
  have he : ((cfg0.win 5).blk t).view.emb (ix4 q 0 g p : S3x1x625x128.Idx) = (ix4 q (block t) g p : S3x25x625x128.Idx) := by
    funext a
    refine Fin.ext ?_
    match a with
    | ⟨0, _⟩ => show win0_5.index t 0 * 3 + 1 * q.val = q.val; omega
    | ⟨1, _⟩ => show win0_5.index t 1 * 1 + 1 * 0 = t.val; omega
    | ⟨2, _⟩ => show win0_5.index t 2 * 625 + 1 * g.val = g.val; omega
    | ⟨3, _⟩ => show win0_5.index t 3 * 128 + 1 * p.val = p.val; omega
  rw [he] at h
  refine h.trans ?_
  show (dats m 0 c).after 5 t (ix4 q 0 g p : S3x1x625x128.Idx) = _
  rw [after0_5, outsAt0]
  dsimp only
  generalize hz : iblk m c 0 t = z0
  have hc := fun f => chosen_at m c t g p hk f
  exact colours_apply q g p hc

end Cert.KernelIdeal.Gen

end
-- ==== Proof.RefRun.lean ====
/-
  The reference's run: its text is one line of host operations, each writing its own buffer (`Ssa.Line`), so it
  ends at contents that satisfy every operation of the text as an equation, the arguments as they were.
-/
module

public import proofs.«01_k».proof.Proof.Ssa
public import proofs.«01_k».proof.Proof.Gen.ReferenceIdeal
public import Idealize.ShloMosaic.Lib.Quiescent

@[expose] public section

set_option maxRecDepth 16384

noncomputable section

namespace Cert.ReferenceIdeal

open Idealize.ShloMosaic Idealize.ShloMosaic.StableHlo Idealize.SL.Sem Ssa

attribute [local irreducible] StableHlo.nullary StableHlo.unary StableHlo.binary StableHlo.ternary StableHlo.quaternary
  StableHlo.reshape

variable {F : FTy → Type} [FloatOps F]

set_option maxHeartbeats 4000000 in
theorem main_line (d : Dev nD) : ∃ n', Line 6 (main (F := F) d) n' := by
  refine ⟨386, ?_⟩
  unfold main
  repeat (first
    | exact Line.nil
    | exact Line.last _ (Step.binary _ _ _ _ _ _ _ (by decide) (by decide)) (by decide)
    | exact Line.last _ (Step.unary _ _ _ _ _ (by decide)) (by decide)
    | exact Line.last _ (Step.nullary _ _ _) (by decide)
    | exact Line.last _ (Step.ternary _ _ _ _ _ _ _ _ _ (by decide) (by decide) (by decide)) (by decide)
    | exact Line.last _ (Step.quaternary _ _ _ _ _ _ _ _ _ _ _ (by decide) (by decide) (by decide) (by decide)) (by decide)
    | exact Line.last _ (Step.reshape _ _ _ _ _ _ (by decide)) (by decide)
    | apply Line.call
    | unfold fn_threefry2x32.body
    | unfold fn_threefry2x32.body_part0
    | unfold fn_threefry2x32.body_part1
    | unfold fn_threefry2x32.body_part2
    | unfold fn_threefry2x32.body_part3
    | unfold fn_uniform.body
    | unfold fn_gumbel.body
    | unfold fn_argmax.body
    | unfold fn_where.body
    | unfold fn_take.body
    | unfold fn_take_0.body
    | unfold fn_where_1.body
    | unfold fn_where_2.body
    | unfold fn_elu.body
    | unfold fn_selu.body)

/-- The reference runs, from any memory: at the end its buffers satisfy its text, the arguments as they were, every
    counter zero. -/
theorem run (m : (ℓ : Loc nD τ sig) → Buf (Elt F) ℓ) (g : Dev nD → PrngReg) :
    θ_run (defs (F := F)) (onTc (τ := τ) (main (F := F))) ⟨m, fun _ => 0, g⟩ fun r =>
      (∀ d : Dev nD, ∃ W : Valuation τ sig (Elt F),
        Holds W (main (F := F) d)
        ∧ (∀ b : Ref sig .tc, r.2.mem ((d.tc : Thread nD τ).loc b) = W (Proc.devRef .tc b))
        ∧ ∀ b : Ref sig .tc, b.idx.val < 6 → W (Proc.devRef .tc b) = m ((d.tc : Thread nD τ).loc b))
      ∧ r.2.sem = fun _ => 0 :=
  θ_run_mono (run_line (by decide) (by decide) _ _ main_line m g) fun r h => ⟨h, sem_eq_zero_of_no_sems (by decide) _⟩

end Cert.ReferenceIdeal

end
-- ==== Proof.RefValue.lean ====
/-
  The reference's two results at a point and a component, the choice there being the one its keys pick.
-/
module

public import proofs.«01_k».proof.Proof.RefDraw
public import proofs.«01_k».proof.Proof.RefRun
public import Idealize.ShloMosaic.Lib.Pipeline.Value

@[expose] public section

set_option maxRecDepth 16384

noncomputable section

/-- The point moved by a choice's matrix and bias: three products, then the bias. -/
def move (p : Fin 3 → EReal) (m : Fin 3 → EReal) (b : EReal) : EReal := p 0 * m 0 + p 1 * m 1 + p 2 * m 2 + b

/-- The mean of two colours. -/
def mean (p c : EReal) : EReal := Idealize.ShloMosaic.Ideal.div (p + c) (Idealize.ShloMosaic.Ideal.ofBits .f32 0x40000000#32 : EReal)

namespace Cert.ReferenceIdeal

open Idealize.ShloMosaic Idealize.ShloMosaic.StableHlo Idealize.SL.Sem Idealize.ShloMosaic.ValueIdx Ssa Threefry

variable {W : Valuation τ sig (Elt Ideal)}

/-- The contraction at an index: three products. -/
theorem dot_apply (l : FVec Ideal S2000000x3 .f32) (r : FVec Ideal S2000000x3x3 .f32) (n : Fin 2000000) (c : Fin 3) :
    Host.dotGeneral dot_S2000000x3_S2000000x3x3_S2000000x3_1_1_n_2_0_0 none l r (ix2 n c)
      = (l (ix2 n 0) : EReal) * r (ix3 n 0 c) + (l (ix2 n 1) : EReal) * r (ix3 n 1 c) + (l (ix2 n 2) : EReal) * r (ix3 n 2 c) := by
  simp only [Host.dotGeneral]
  rw [Ideal.dotGeneral_apply]
  rw [← Equiv.sum_comp (contrEquiv1 dot_S2000000x3_S2000000x3x3_S2000000x3_1_1_n_2_0_0 3 rfl rfl).symm, Fin.sum_univ_three]
  have e : ∀ i : Fin 3, (l (dot_S2000000x3_S2000000x3x3_S2000000x3_1_1_n_2_0_0.lhsIdx (ix2 n c) ((contrEquiv1
        dot_S2000000x3_S2000000x3x3_S2000000x3_1_1_n_2_0_0 3 rfl rfl).symm i)) : EReal)
      * r (dot_S2000000x3_S2000000x3x3_S2000000x3_1_1_n_2_0_0.rhsIdx (ix2 n c) ((contrEquiv1
        dot_S2000000x3_S2000000x3x3_S2000000x3_1_1_n_2_0_0 3 rfl rfl).symm i)) = (l (ix2 n i) : EReal) * r (ix3 n i c) := fun i => by
    have h := contrEquiv1_symm_val dot_S2000000x3_S2000000x3x3_S2000000x3_1_1_n_2_0_0 3 rfl rfl i
    refine congrArg₂ (fun a b => (l a : EReal) * r b) ?_ ?_
    · funext a
      refine Fin.ext ?_
      match a with
      | ⟨0, _⟩ => rfl
      | ⟨1, _⟩ => exact h
    · funext a
      refine Fin.ext ?_
      match a with
      | ⟨0, _⟩ => rfl
      | ⟨1, _⟩ => exact h
      | ⟨2, _⟩ => rfl
  rw [e, e, e]

/-- Two one-word vectors joined, read at the first place. -/
theorem join_first (a b : S1.Idx → BitVec 32) {h} : concatenate S2 0 [⟨S1, a⟩, ⟨S1, b⟩] h (ix1 0) = a (ix1 0) :=
  concatenate_apply_piece 0 [⟨S1, a⟩, ⟨S1, b⟩] h (ix1 0) 0 (Nat.zero_lt_succ 1) S1 a rfl rfl 0 rfl (ix1 0)
    (fun b h => absurd (Subsingleton.elim _ _) h) rfl

/-- Two one-word vectors joined, read at the second place. -/
theorem join_second (a b : S1.Idx → BitVec 32) {h} : concatenate S2 0 [⟨S1, a⟩, ⟨S1, b⟩] h (ix1 1) = b (ix1 0) :=
  concatenate_apply_piece 0 [⟨S1, a⟩, ⟨S1, b⟩] h (ix1 1) 1 (Nat.lt_succ_self 1) S1 b rfl rfl 1 rfl (ix1 0)
    (fun b h => absurd (Subsingleton.elim _ _) h) rfl

/-- The results over the contents the reference ends at. -/
theorem main_holds {d : Dev nD} (H : Holds W (main (F := Ideal) d)) (n : Fin 2000000)
    {p : EReal} (hp : ∀ k : Fin 8, (W (Proc.devRef .tc main_arg5) : S8.Idx → EReal) (ix1 k) = p) (h0 : 0 < p) (h1 : p < ⊤) :
    ∃ k : Fin 8, Picks (key n) k ∧ ∀ c : Fin 3,
      (W (Proc.devRef .tc main_v17) : S2000000x3.Idx → EReal) (ix2 n c)
          = selu (move (fun i => (W (Proc.devRef .tc main_arg0) : S2000000x3.Idx → EReal) (ix2 n i))
              (fun i => (W (Proc.devRef .tc main_arg2) : S8x3x3.Idx → EReal) (ix3 k i c))
              ((W (Proc.devRef .tc main_arg3) : S8x3.Idx → EReal) (ix2 k c)))
        ∧ (W (Proc.devRef .tc main_v21) : S2000000x3.Idx → EReal) (ix2 n c)
          = mean ((W (Proc.devRef .tc main_arg1) : S2000000x3.Idx → EReal) (ix2 n c))
              ((W (Proc.devRef .tc main_arg4) : S8x3.Idx → EReal) (ix2 k c)) := by
  unfold main at H
  simp only [holds_bind, holds_last, holds_ret, nullary_holds', unary_holds', binary_holds', and_assoc] at H
  obtain ⟨a0, a1, a2, a3, a4, a5, a6, a7, a8, a9, a10, hg, a11, a12, a13, hm, ht, hb, a14, a15, hs, hc, a16, a17, a18, a19, -⟩ := H
  have k0 : (W (Proc.devRef .tc main_v6) : S2.Idx → BitVec 32) (ix1 0) = 0#32 := by
    have h2 : (W (Proc.devRef .tc main_v2) : S1.Idx → BitVec 32) (ix1 0) = 0#32 := by
      rw [a4, a3, a2, a1, a0]
      rfl
    rw [a9, ← h2]
    exact join_first _ _
  have k1 : (W (Proc.devRef .tc main_v6) : S2.Idx → BitVec 32) (ix1 1) = 42#32 := by
    have h5 : (W (Proc.devRef .tc main_v5) : S1.Idx → BitVec 32) (ix1 0) = 42#32 := by
      rw [a8, a7, a6, a5, a0]
      rfl
    rw [a9, ← h5]
    exact join_second _ _
  have g : ∀ k : Fin 8, (W (Proc.devRef .tc main_v8) : S2000000x8.Idx → EReal) (ix2 n k) = ((Gumbel.noise (key n k) : ℝ) : EReal) :=
    fun k => gumbel_holds hg k0 k1 n k
  obtain ⟨q, hq⟩ : ∃ q : ℝ, p = (q : EReal) := ⟨p.toReal, (EReal.coe_toReal h1.ne (h0.trans' EReal.bot_lt_zero).ne').symm⟩
  have hq0 : 0 < q := by
    rw [hq] at h0
    exact EReal.coe_pos.1 h0
  have l : ∀ k : Fin 8, (W (Proc.devRef .tc main_v10) : S2000000x8.Idx → EReal) (ix2 n k) = ((Real.log q : ℝ) : EReal) := fun k => by
    have h7 : (W (Proc.devRef .tc main_v7) : S8.Idx → EReal) (ix1 k) = ((Real.log q : ℝ) : EReal) := by
      rw [a10]
      show Ideal.log ((W (Proc.devRef .tc main_arg5) : S8.Idx → EReal) (ix1 k)) = _
      rw [hp, hq, Ideal.log_coe, if_neg (not_le.2 hq0)]
    rw [← h7, a12, a11]
    exact congrArg (W (Proc.devRef .tc main_v7) : S8.Idx → EReal) (funext fun a => by obtain rfl : a = 0 := Subsingleton.elim _ _; rfl)
  have x : ∀ k : Fin 8, rd W (.of main_v11 : TRef sig ⟨S2000000x8, .f32⟩) (ix2 n k) = ((Gumbel.noise (key n k) + Real.log q : ℝ) : EReal) :=
    fun k => by
    show (W (Proc.devRef .tc main_v11) : S2000000x8.Idx → EReal) (ix2 n k) = _
    rw [a13, EReal.coe_add, ← g, ← l k]
    rfl
  obtain ⟨k, hk, hpk⟩ := argmax_holds hm n (fun k => by rw [x]; exact EReal.bot_lt_coe _)
  refine ⟨k, hpk.of_lt_iff fun i j => ?_, fun c => ⟨?_, ?_⟩⟩
  · show (rd W (.of main_v11 : TRef sig ⟨S2000000x8, .f32⟩) (ix2 n i) : EReal) < rd W (.of main_v11 : TRef sig ⟨S2000000x8, .f32⟩) (ix2 n j) ↔ _
    rw [x, x, EReal.coe_lt_coe_iff, add_lt_add_iff_right]
    exact Gumbel.noise_lt_iff (Gumbel.top_lt _) (Gumbel.top_lt _)
  · have t : ∀ i : Fin 3, (W (Proc.devRef .tc main_v13) : S2000000x3x3.Idx → EReal) (ix3 n i c)
        = (W (Proc.devRef .tc main_arg2) : S8x3x3.Idx → EReal) (ix3 k i c) := fun i => take_holds ht hk i c
    have b : (W (Proc.devRef .tc main_v14) : S2000000x3.Idx → EReal) (ix2 n c)
        = (W (Proc.devRef .tc main_arg3) : S8x3.Idx → EReal) (ix2 k c) := take0_holds hb hk c
    refine (selu_holds hs (ix2 n c)).trans (congrArg selu ?_)
    show (W (Proc.devRef .tc main_v16) : S2000000x3.Idx → EReal) (ix2 n c) = _
    rw [a15, move, ← b, ← t, ← t, ← t]
    refine congrArg (fun y : EReal => y + (W (Proc.devRef .tc main_v14) : S2000000x3.Idx → EReal) (ix2 n c)) ?_
    rw [a14]
    exact dot_apply _ _ n c
  · have b : (W (Proc.devRef .tc main_v18) : S2000000x3.Idx → EReal) (ix2 n c)
        = (W (Proc.devRef .tc main_arg4) : S8x3.Idx → EReal) (ix2 k c) := take0_holds hc hk c
    rw [a19, a18, a17, a16, mean, ← b]
    rfl

end Cert.ReferenceIdeal

end
-- ==== Proof.KernelValue.lean ====
/-
  The kernel's two results at a point and a component, the choice there being the one that the keys pick: what the
  reference gives there.
-/
module

public import proofs.«01_k».proof.Proof.KernelArray
public import proofs.«01_k».proof.Proof.RefValue
public import proofs.«01_k».proof.Proof.Gen.KernelIdeal.Read

@[expose] public section

set_option maxRecDepth 16384

noncomputable section

namespace Cert.KernelIdeal

open Idealize.ShloMosaic Idealize.ShloMosaic.TcCoe Idealize.ShloMosaic.ValueIdx Gen

theorem ofBits_two : (Ideal.ofBits .f32 0x40000000#32 : EReal) = ((2 : ℝ) : EReal) := by
  show Ideal.ieee 8 23 0x40000000#32 = _
  unfold Ideal.ieee
  have h1 : (BitVec.extractLsb' 23 8 0x40000000#32).toNat = 128 := by decide
  have h2 : (BitVec.extractLsb' 0 23 0x40000000#32).toNat = 0 := by decide
  have h3 : (BitVec.extractLsb' (8 + 23) 1 0x40000000#32 == 1#1) = false := by decide
  simp only [h1, h2, h3]
  norm_num

theorem ofBits_half : (Ideal.ofBits .f32 0x3F000000#32 : EReal) = ((2⁻¹ : ℝ) : EReal) := by
  show Ideal.ieee 8 23 0x3F000000#32 = _
  unfold Ideal.ieee
  have h1 : (BitVec.extractLsb' 23 8 0x3F000000#32).toNat = 126 := by decide
  have h2 : (BitVec.extractLsb' 0 23 0x3F000000#32).toNat = 0 := by decide
  have h3 : (BitVec.extractLsb' (8 + 23) 1 0x3F000000#32 == 1#1) = false := by decide
  simp only [h1, h2, h3]
  norm_num

/-- Half a sum is its mean. -/
theorem half_mean (x y : EReal) : (x + y) * (Ideal.ofBits .f32 0x3F000000#32 : EReal) = mean x y := by
  rw [mean, ofBits_two, ofBits_half, Ideal.div, if_neg (by rw [EReal.coe_eq_zero]; norm_num), EReal.coe_inv]

/-- The body's activation is the reference's. -/
theorem active_selu (x : EReal) : active (F := Ideal) x = Cert.ReferenceIdeal.selu x := by
  have e0 : (Scalar.ofBits (F := Ideal) .f32 0x00000000#32 : EReal) = 0 := Ideal.ofBits_zero_f32
  have e1 : (Scalar.ofBits (F := Ideal) .f32 0x3F800000#32 : EReal) = 1 := Ideal.ofBits_one_f32
  unfold active Cert.ReferenceIdeal.selu
  rw [e0, e1]
  show (Ideal.ofBits .f32 0x3F867D5F#32 : EReal) * Scalar.select (BitVec.ofBool (decide ((0 : EReal) < x))) x
    ((Ideal.ofBits .f32 0x3FD62D7D#32 : EReal) * (Ideal.exp x - 1)) = _
  by_cases h : (0 : EReal) < x
  · simp only [h, decide_true, if_true]
    rfl
  · simp only [h, decide_false, if_false]
    rfl

variable (m : (ℓ : Loc nD τ sig) → Buf (Elt Ideal) ℓ) (c : Dev nD)

/-- The moved point from the table is the reference's. -/
theorem movedBy_move (t : Fin cfg0.N) (q : Fin 3) (g : Fin 625) (p : Fin 128) (k : Fin 8) :
    (movedBy (F := Ideal) (iblk m c 0 t) (iblk m c 2 t) q g p k : EReal)
      = move (fun i => (m (c.tc.loc main_arg0) : S2000000x3.Idx → EReal) (ix2 (number (block t) g p) i))
          (fun i => (m (c.tc.loc main_arg2) : S8x3x3.Idx → EReal) (ix3 k i q)) ((m (c.tc.loc main_arg3) : S8x3.Idx → EReal) (ix2 k q)) := by
  unfold movedBy move
  rw [iblk_table, iblk_points, iblk_points, iblk_points, table_matrix _ _ _ _ 0 q k (by show q.val = 3 * 0 + q.val; omega),
    table_matrix _ _ _ _ 1 q k (by show 3 + q.val = 3 * 1 + q.val; omega), table_matrix _ _ _ _ 2 q k (by show 6 + q.val = 3 * 2 + q.val; omega),
    table_bias _ _ _ _ q k rfl]
  rfl

/-- The new colour from the table is the reference's. -/
theorem mixedBy_mean (t : Fin cfg0.N) (q : Fin 3) (g : Fin 625) (p : Fin 128) (k : Fin 8) :
    (mixedBy (F := Ideal) (iblk m c 0 t) (iblk m c 3 t) q g p k : EReal)
      = mean ((m (c.tc.loc main_arg1) : S2000000x3.Idx → EReal) (ix2 (number (block t) g p) q)) ((m (c.tc.loc main_arg4) : S8x3.Idx → EReal) (ix2 k q)) := by
  unfold mixedBy
  rw [iblk_table, iblk_colours, table_colour _ _ _ _ q k rfl]
  exact half_mean _ _

/-- A point's place among the blocks. -/
theorem number_surj (n : Fin 2000000) : ∃ (t : Fin cfg0.N) (g : Fin 625) (p : Fin 128), number (block t) g p = n
    ∧ t.val = n.val / 80000 ∧ g.val = n.val / 128 % 625 ∧ p.val = n.val % 128 := by
  have hn := n.isLt
  refine ⟨⟨n.val / 80000, lt_of_lt_of_eq (by omega) N_0.symm⟩, ⟨n.val / 128 % 625, by omega⟩, ⟨n.val % 128, by omega⟩, Fin.ext ?_, rfl, rfl, rfl⟩
  show (n.val / 80000 * 625 + n.val / 128 % 625) * 128 + n.val % 128 = n.val
  omega

theorem points_value (n : Fin 2000000) (q : Fin 3) {k : Fin 8} (hk : Picks (key n.val) k) :
    (Read.val_main_v20 (F := Ideal) (Value.reg_main_v18_0 m c) (ix2 n q) : EReal)
      = Cert.ReferenceIdeal.selu (move (fun i => (m (c.tc.loc main_arg0) : S2000000x3.Idx → EReal) (ix2 n i))
          (fun i => (m (c.tc.loc main_arg2) : S8x3x3.Idx → EReal) (ix3 k i q)) ((m (c.tc.loc main_arg3) : S8x3.Idx → EReal) (ix2 k q))) := by
  obtain ⟨t, g, p, e, et, eg, ep⟩ := number_surj n
  rw [Read.val_main_v20_apply, Read.val_main_v19_apply]
  have hi : Read.idx_main_v19 (Read.idx_main_v20 (ix2 n q)) = ix4 q (block t) g p := by
    have hn := n.isLt
    funext a
    refine Fin.ext ?_
    match a with
    | ⟨0, _⟩ => show (q.val * 2000000 + n.val) / 2000000 = q.val; omega
    | ⟨1, _⟩ => show (q.val * 2000000 + n.val) / 80000 % 25 = t.val; omega
    | ⟨2, _⟩ => show (q.val * 2000000 + n.val) / 128 % 625 = g.val; omega
    | ⟨3, _⟩ => show (q.val * 2000000 + n.val) % 128 = p.val; omega
  rw [hi, ← e, ← movedBy_move, ← active_selu]
  exact points_array m c t q g p (by rw [e]; exact hk)

theorem colours_value (n : Fin 2000000) (q : Fin 3) {k : Fin 8} (hk : Picks (key n.val) k) :
    (Read.val_main_v22 (F := Ideal) (Value.reg_main_v18_1 m c) (ix2 n q) : EReal)
      = mean ((m (c.tc.loc main_arg1) : S2000000x3.Idx → EReal) (ix2 n q)) ((m (c.tc.loc main_arg4) : S8x3.Idx → EReal) (ix2 k q)) := by
  obtain ⟨t, g, p, e, et, eg, ep⟩ := number_surj n
  rw [Read.val_main_v22_apply, Read.val_main_v21_apply]
  have hi : Read.idx_main_v21 (Read.idx_main_v22 (ix2 n q)) = ix4 q (block t) g p := by
    have hn := n.isLt
    funext a
    refine Fin.ext ?_
    match a with
    | ⟨0, _⟩ => show (q.val * 2000000 + n.val) / 2000000 = q.val; omega
    | ⟨1, _⟩ => show (q.val * 2000000 + n.val) / 80000 % 25 = t.val; omega
    | ⟨2, _⟩ => show (q.val * 2000000 + n.val) / 128 % 625 = g.val; omega
    | ⟨3, _⟩ => show (q.val * 2000000 + n.val) % 128 = p.val; omega
  rw [hi, ← e, ← mixedBy_mean]
  exact colours_array m c t q g p (by rw [e]; exact hk)

end Cert.KernelIdeal

end
-- ==== Proof.lean ====
/-
  The proof of `Cert.Claim`: the programs run and leave their arguments as they were, and where the eight probabilities
  are one positive finite number the kernel's two results are the reference's, element by element.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelValue

@[expose] public section

noncomputable section

namespace Cert.Proof

open Idealize.ShloMosaic Idealize.ShloMosaic.TcCoe Idealize.ShloMosaic.ValueIdx Idealize.SL.Sem

theorem pre_facts : Cert.Pre_equal_probabilities.Facts where
  slices_S8_S1_0 := by decide
  shapeCasts_S1_S_ := by decide
  bcast_S_S8 := by decide

theorem and_one {a b : BitVec 1} (h : IntOp.andi a b = 1#1) : a = 1#1 ∧ b = 1#1 := by
  revert a b
  decide

theorem ofBool_one {p : Prop} [Decidable p] (h : BitVec.ofBool (decide p) = 1#1) : p := by
  by_cases hp : p
  · exact hp
  · rw [decide_eq_false hp] at h
    exact absurd h (by decide)

theorem ofBits_top : (Ideal.ofBits .f32 0x7F800000#32 : EReal) = ⊤ := by
  show Ideal.ieee 8 23 0x7F800000#32 = _
  unfold Ideal.ieee
  have h1 : (BitVec.extractLsb' 23 8 0x7F800000#32).toNat = 2 ^ 8 - 1 := by decide
  have h2 : (BitVec.extractLsb' 0 23 0x7F800000#32).toNat = 0 := by decide
  have h3 : (BitVec.extractLsb' (8 + 23) 1 0x7F800000#32 == 1#1) = false := by decide
  simp only [h1, h2, h3, if_true]
  rfl

/-- What the precondition says: one positive finite number. -/
theorem pre_probabilities [Cert.Pre_equal_probabilities.Facts] {x0 x1 : FVec Ideal Cert.Pre_equal_probabilities.S2000000x3 .f32}
    {x2 : FVec Ideal Cert.Pre_equal_probabilities.S8x3x3 .f32} {x3 x4 : FVec Ideal Cert.Pre_equal_probabilities.S8x3 .f32}
    {x5 : FVec Ideal Cert.Pre_equal_probabilities.S8 .f32}
    (h : Cert.Pre_equal_probabilities.fn (F := Ideal) x0 x1 x2 x3 x4 x5 = fun _ => 1#1) :
    ∃ p : EReal, (∀ k : Fin 8, (x5 (ix1 k) : EReal) = p) ∧ 0 < p ∧ p < ⊤ := by
  have hz : (Ideal.ofBits .f32 0x00000000#32 : EReal) = 0 := Ideal.ofBits_zero_f32
  have hk : ∀ k : Fin 8, (x5 (ix1 k) : EReal) = x5 (ix1 0) ∧ (0 : EReal) < x5 (ix1 k) ∧ (x5 (ix1 k) : EReal) < ⊤ := fun k => by
    obtain ⟨h', h3⟩ := and_one (congrFun h (ix1 k))
    obtain ⟨h1, h2⟩ := and_one h'
    refine ⟨(ofBool_one h1).trans (congrArg x5 ?_), hz ▸ ofBool_one h2, ofBits_top ▸ ofBool_one h3⟩
    funext a
    obtain rfl : a = 0 := Subsingleton.elim _ _
    exact Fin.ext ((Nat.zero_add _).trans (Nat.lt_one_iff.mp (Fin.isLt (n := 1) _)))
  exact ⟨x5 (ix1 0), fun k => (hk k).1, (hk 0).2⟩

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4)
        ∧ r.2.mem (c.tc.loc Cert.ReferenceIdeal.main_arg5) = m (c.tc.loc Cert.ReferenceIdeal.main_arg5))
      ∧ r.2.sem = fun _ => 0 :=
  θ_run_mono (Cert.ReferenceIdeal.run m g) fun r h => ⟨fun c => by
    obtain ⟨W, -, hr, ha⟩ := h.1 c
    exact ⟨(hr _).trans (ha _ (by decide)), (hr _).trans (ha _ (by decide)), (hr _).trans (ha _ (by decide)), (hr _).trans (ha _ (by decide)),
      (hr _).trans (ha _ (by decide)), (hr _).trans (ha _ (by decide))⟩, h.2⟩

theorem algebraic [Cert.Pre_equal_probabilities.Facts] : Cert.algebraic_KernelIdeal_ReferenceIdeal_pre_equal_probabilities := by
  intro m g m' g' hpre hagree
  refine ⟨fun c => Cert.KernelIdeal.Read.val_main_v20 (Cert.KernelIdeal.Value.reg_main_v18_0 m c),
    fun c => Cert.KernelIdeal.Read.val_main_v22 (Cert.KernelIdeal.Value.reg_main_v18_1 m c), Cert.KernelIdeal.Value.run m g,
    θ_run_mono (Cert.ReferenceIdeal.run m' g') fun r h c => ?_⟩
  obtain ⟨W, H, hr, ha⟩ := h.1 c
  obtain ⟨a0, a1, a2, a3, a4, a5⟩ := hagree c
  obtain ⟨p, hp, h0, h1⟩ := pre_probabilities (hpre c)
  have w0 := (ha Cert.ReferenceIdeal.main_arg0 (by decide)).trans a0
  have w1 := (ha Cert.ReferenceIdeal.main_arg1 (by decide)).trans a1
  have w2 := (ha Cert.ReferenceIdeal.main_arg2 (by decide)).trans a2
  have w3 := (ha Cert.ReferenceIdeal.main_arg3 (by decide)).trans a3
  have w4 := (ha Cert.ReferenceIdeal.main_arg4 (by decide)).trans a4
  have w5 := (ha Cert.ReferenceIdeal.main_arg5 (by decide)).trans a5
  have hv : ∀ (n : Fin 2000000) (q : Fin 3),
      (W (Proc.devRef .tc Cert.ReferenceIdeal.main_v17) (ix2 n q) : EReal)
        = Cert.KernelIdeal.Read.val_main_v20 (F := Ideal) (Cert.KernelIdeal.Value.reg_main_v18_0 m c) (ix2 n q)
      ∧ (W (Proc.devRef .tc Cert.ReferenceIdeal.main_v21) (ix2 n q) : EReal)
        = Cert.KernelIdeal.Read.val_main_v22 (F := Ideal) (Cert.KernelIdeal.Value.reg_main_v18_1 m c) (ix2 n q) := fun n q => by
    obtain ⟨k, hk, hc⟩ := Cert.ReferenceIdeal.main_holds H n (p := p) (fun k => (congrFun w5 (ix1 k)).trans (hp k)) h0 h1
    have hq := hc q
    rw [w0, w1, w2, w3, w4] at hq
    exact And.intro (hq.1.trans (Cert.KernelIdeal.points_value m c n q hk).symm) (hq.2.trans (Cert.KernelIdeal.colours_value m c n q hk).symm)
  refine ⟨(hr _).trans (funext fun j => ?_), (hr _).trans (funext fun j => ?_), (hr _).trans (ha _ (by decide)), (hr _).trans (ha _ (by decide)),
    (hr _).trans (ha _ (by decide)), (hr _).trans (ha _ (by decide)), (hr _).trans (ha _ (by decide)), (hr _).trans (ha _ (by decide))⟩
  · rw [show j = ix2 (j 0) (j 1) from eq_ix2 j]
    exact (hv (j 0) (j 1)).1
  · rw [show j = ix2 (j 0) (j 1) from eq_ix2 j]
    exact (hv (j 0) (j 1)).2

theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    fun m g _ => frame_reference m g, fun m g _ => frame_reference m g, trivial, @algebraic pre_facts⟩

end Cert.Proof

end
